-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S770048x128 : Shape := ⟨2, ![770048, 128]⟩
abbrev S24064x128 : Shape := ⟨2, ![24064, 128]⟩
abbrev S1x48000 : Shape := ⟨2, ![1, 48000]⟩
abbrev S60x60x48000 : Shape := ⟨3, ![60, 60, 48000]⟩
abbrev S4096x128 : Shape := ⟨2, ![4096, 128]⟩
abbrev S128x128 : Shape := ⟨2, ![128, 128]⟩
abbrev S1x256 : Shape := ⟨2, ![1, 256]⟩
abbrev S60x60x256 : Shape := ⟨3, ![60, 60, 256]⟩
abbrev S8192x128 : Shape := ⟨2, ![8192, 128]⟩
abbrev S2x60x64x128 : Shape := ⟨4, ![2, 60, 64, 128]⟩
abbrev S64x128 : Shape := ⟨2, ![64, 128]⟩
abbrev S32x128 : Shape := ⟨2, ![32, 128]⟩
abbrev S64x256 : Shape := ⟨2, ![64, 256]⟩
abbrev S128x256 : Shape := ⟨2, ![128, 256]⟩
abbrev S1x1x64x128 : Shape := ⟨4, ![1, 1, 64, 128]⟩
abbrev S1x128 : Shape := ⟨2, ![1, 128]⟩
abbrev S60x128 : Shape := ⟨2, ![60, 128]⟩
abbrev S1x60x128 : Shape := ⟨3, ![1, 60, 128]⟩

abbrev nBuf : Space → Nat
  | .hbm => 4
  | .vmem => 10
  | .smem => 0
  | _ => 0

abbrev bufTy : (tb : Table) → Fin (tcTables nBuf tb) → BufTy
  | .hbm, ⟨0, _⟩ => ⟨S770048x128, .i32⟩
  | .hbm, ⟨1, _⟩ => ⟨S24064x128, .i32⟩
  | .hbm, ⟨2, _⟩ => ⟨S1x48000, .i32⟩
  | .hbm, ⟨3, _⟩ => ⟨S60x60x48000, .f32⟩
  | .local _ .vmem, ⟨0, _⟩ => ⟨S4096x128, .i32⟩
  | .local _ .vmem, ⟨1, _⟩ => ⟨S4096x128, .i32⟩
  | .local _ .vmem, ⟨2, _⟩ => ⟨S128x128, .i32⟩
  | .local _ .vmem, ⟨3, _⟩ => ⟨S128x128, .i32⟩
  | .local _ .vmem, ⟨4, _⟩ => ⟨S1x256, .i32⟩
  | .local _ .vmem, ⟨5, _⟩ => ⟨S1x256, .i32⟩
  | .local _ .vmem, ⟨6, _⟩ => ⟨S60x60x256, .f32⟩
  | .local _ .vmem, ⟨7, _⟩ => ⟨S60x60x256, .f32⟩
  | .local _ .vmem, ⟨8, _⟩ => ⟨S8192x128, .f32⟩
  | .local _ .vmem, ⟨9, _⟩ => ⟨S2x60x64x128, .f32⟩
  | _, _ => ⟨S770048x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![188], ![false]⟩

@[reducible] def k0_t1_loop : Scf.Loop 32 :=
  let c0_i32_3 : BitVec 32 := 0#32
  let c128_i32 : BitVec 32 := 128#32
  let v20 : BitVec 32 := Scalar.addi c0_i32_3 c128_i32
  let c1_i32_4 : BitVec 32 := 1#32
  ⟨c0_i32_3, v20, c1_i32_4⟩
def k0_off1 (k0_t1 : Fin k0_t1_loop.trips) : Fin 2 → Nat :=
  let c0_i32_3 : BitVec 32 := 0#32
  let c1_i32_4 : BitVec 32 := 1#32
  let arg7 : BitVec 32 := Scf.iv c0_i32_3 c1_i32_4 k0_t1
  let c32_i32_1699 : BitVec 32 := 32#32
  let v3403 : BitVec 32 := Scalar.muli arg7 c32_i32_1699
  let v3404 : Index := Scalar.indexCast v3403
  let c0_1700 : Index := 0#32
  ![v3404.toNat, 0]
def k0_off2 (k0_t1 : Fin k0_t1_loop.trips) : Fin 2 → Nat :=
  let c0_i32_3 : BitVec 32 := 0#32
  let c1_i32_4 : BitVec 32 := 1#32
  let arg7 : BitVec 32 := Scf.iv c0_i32_3 c1_i32_4 k0_t1
  let c64_i32_1751 : BitVec 32 := 64#32
  let v3555 : BitVec 32 := Scalar.muli arg7 c64_i32_1751
  let v3556 : Index := Scalar.indexCast v3555
  let c0_1752 : Index := 0#32
  ![v3556.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S60x60x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S770048x128 : Shape := ⟨2, ![770048, 128]⟩
abbrev S24064x128 : Shape := ⟨2, ![24064, 128]⟩
abbrev S1x48000 : Shape := ⟨2, ![1, 48000]⟩
abbrev S770048x128x4 : Shape := ⟨3, ![770048, 128, 4]⟩
abbrev S188x128x2x64x128 : Shape := ⟨5, ![188, 128, 2, 64, 128]⟩
abbrev S188x2x128x64x128 : Shape := ⟨5, ![188, 2, 128, 64, 128]⟩
abbrev S48128x64x128 : Shape := ⟨3, ![48128, 64, 128]⟩
abbrev S48000x60x96 : Shape := ⟨3, ![48000, 60, 96]⟩
abbrev S188x128x2x64 : Shape := ⟨4, ![188, 128, 2, 64]⟩
abbrev S188x2x128x64 : Shape := ⟨4, ![188, 2, 128, 64]⟩
abbrev S48128x64 : Shape := ⟨2, ![48128, 64]⟩
abbrev S48000x60 : Shape := ⟨2, ![48000, 60]⟩
abbrev S48000 : Shape := ⟨1, ![48000]⟩
abbrev S_ : Shape := ⟨0, ![]⟩
abbrev S48000x60x60 : Shape := ⟨3, ![48000, 60, 60]⟩
abbrev S48000x60x1 : Shape := ⟨3, ![48000, 60, 1]⟩
abbrev S48000x1x60 : Shape := ⟨3, ![48000, 1, 60]⟩
abbrev S60 : Shape := ⟨1, ![60]⟩
abbrev S1x60 : Shape := ⟨2, ![1, 60]⟩
abbrev S48000x1 : Shape := ⟨2, ![48000, 1]⟩
abbrev S60x60x48000 : Shape := ⟨3, ![60, 60, 48000]⟩

abbrev nBuf : Space → Nat
  | .hbm => 54
  | .vmem => 0
  | .smem => 0
  | _ => 0

abbrev bufTy : (tb : Table) → Fin (tcTables nBuf tb) → BufTy
  | .hbm, ⟨0, _⟩ => ⟨S770048x128, .i32⟩
  | .hbm, ⟨1, _⟩ => ⟨S24064x128, .i32⟩
  | .hbm, ⟨2, _⟩ => ⟨S1x48000, .i32⟩
  | .hbm, ⟨3, _⟩ => ⟨S770048x128x4, .i8⟩
  | .hbm, ⟨4, _⟩ => ⟨S24064x128, .f32⟩
  | .hbm, ⟨5, _⟩ => ⟨S188x128x2x64x128, .i8⟩
  | .hbm, ⟨6, _⟩ => ⟨S188x2x128x64x128, .i8⟩
  | .hbm, ⟨7, _⟩ => ⟨S48128x64x128, .i8⟩
  | .hbm, ⟨8, _⟩ => ⟨S48000x60x96, .i8⟩
  | .hbm, ⟨9, _⟩ => ⟨S188x128x2x64, .f32⟩
  | .hbm, ⟨10, _⟩ => ⟨S188x2x128x64, .f32⟩
  | .hbm, ⟨11, _⟩ => ⟨S48128x64, .f32⟩
  | .hbm, ⟨12, _⟩ => ⟨S48000x60, .f32⟩
  | .hbm, ⟨13, _⟩ => ⟨S48000, .i32⟩
  | .hbm, ⟨14, _⟩ => ⟨S48000x60x96, .i32⟩
  | .hbm, ⟨15, _⟩ => ⟨S48000x60x96, .f32⟩
  | .hbm, ⟨16, _⟩ => ⟨S48000x60x96, .f32⟩
  | .hbm, ⟨17, _⟩ => ⟨S_, .f32⟩
  | .hbm, ⟨18, _⟩ => ⟨S48000x60, .f32⟩
  | .hbm, ⟨19, _⟩ => ⟨S48000x60x96, .bf16⟩
  | .hbm, ⟨20, _⟩ => ⟨S48000x60x60, .f32⟩
  | .hbm, ⟨21, _⟩ => ⟨S48000x60, .f32⟩
  | .hbm, ⟨22, _⟩ => ⟨S48000x60, .f32⟩
  | .hbm, ⟨23, _⟩ => ⟨S_, .f32⟩
  | .hbm, ⟨24, _⟩ => ⟨S48000x60, .f32⟩
  | .hbm, ⟨25, _⟩ => ⟨S48000x60, .f32⟩
  | .hbm, ⟨26, _⟩ => ⟨S48000x60x1, .f32⟩
  | .hbm, ⟨27, _⟩ => ⟨S48000x1x60, .f32⟩
  | .hbm, ⟨28, _⟩ => ⟨S48000x60x60, .f32⟩
  | .hbm, ⟨29, _⟩ => ⟨S48000x60x60, .f32⟩
  | .hbm, ⟨30, _⟩ => ⟨S48000x60x60, .f32⟩
  | .hbm, ⟨31, _⟩ => ⟨S48000x60x1, .f32⟩
  | .hbm, ⟨32, _⟩ => ⟨S48000x1x60, .f32⟩
  | .hbm, ⟨33, _⟩ => ⟨S48000x60x60, .f32⟩
  | .hbm, ⟨34, _⟩ => ⟨S48000x60x60, .f32⟩
  | .hbm, ⟨35, _⟩ => ⟨S48000x60x60, .f32⟩
  | .hbm, ⟨36, _⟩ => ⟨S48000x60x60, .f32⟩
  | .hbm, ⟨37, _⟩ => ⟨S48000x60x60, .f32⟩
  | .hbm, ⟨38, _⟩ => ⟨S60, .i32⟩
  | .hbm, ⟨39, _⟩ => ⟨S1x60, .i32⟩
  | .hbm, ⟨40, _⟩ => ⟨S48000x1, .i32⟩
  | .hbm, ⟨41, _⟩ => ⟨S48000x60, .i32⟩
  | .hbm, ⟨42, _⟩ => ⟨S48000x60, .i32⟩
  | .hbm, ⟨43, _⟩ => ⟨S48000x60, .i1⟩
  | .hbm, ⟨44, _⟩ => ⟨S48000x60x1, .i1⟩
  | .hbm, ⟨45, _⟩ => ⟨S48000x1x60, .i1⟩
  | .hbm, ⟨46, _⟩ => ⟨S48000x60x60, .i1⟩
  | .hbm, ⟨47, _⟩ => ⟨S48000x60x60, .i1⟩
  | .hbm, ⟨48, _⟩ => ⟨S48000x60x60, .i1⟩
  | .hbm, ⟨49, _⟩ => ⟨S_, .f32⟩
  | .hbm, ⟨50, _⟩ => ⟨S_, .f32⟩
  | .hbm, ⟨51, _⟩ => ⟨S48000x60x60, .f32⟩
  | .hbm, ⟨52, _⟩ => ⟨S48000x60x60, .f32⟩
  | .hbm, ⟨53, _⟩ => ⟨S60x60x48000, .f32⟩
  | _, _ => ⟨S770048x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst_1 : Ref sig .tc := ⟨.hbm, 49, rfl⟩
abbrev main_call0_v0 : Ref sig .tc := ⟨.hbm, 50, rfl⟩
abbrev main_call0_v1 : Ref sig .tc := ⟨.hbm, 51, rfl⟩
abbrev main_v44 : Ref sig .tc := ⟨.hbm, 52, rfl⟩
abbrev main_v45 : Ref sig .tc := ⟨.hbm, 53, rfl⟩

abbrev nD : Nat := 1
abbrev τ : Topo := Topo.v7x

variable {F : FTy → Type} [FloatOps F]
-- ==== Proof.BitsFrame.lean ====
/-
  The frame of `Kernel`: every execution ends, the three argument arrays end as they were, and every semaphore counter
  ends at zero.  Nothing is said here about the distances themselves (for those see the value modules of the
  idealized program), so the output window is FORGOTTEN: the body is handed its buffer at any contents and gives it
  back at any contents.  The count window's last block overhangs the 48000 counts by half; the words past the end are
  whatever the staging buffer holds, and the body runs whatever they are.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- a cover of a production-size block is checked one coordinate at a time
set_option maxRecDepth 16384

noncomputable section

namespace Cert.Kernel.Dist

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The two scratch operands: the Gram rows and the transposed Gram tiles. -/
abbrev gramM : Memref sig .tc .vmem S8192x128 .f32 := Memref.whole cc0_scratch0
abbrev tileM : Memref sig .tc .vmem S2x60x64x128 .f32 := Memref.whole cc0_scratch1

/-- The pipeline's invariant with the two scratch operands as memrefs owned at some contents. -/
theorem PhiA_eq (c : Dev nD) :
    (Pipeline.ΦA spec0 c : sProp 𝕄)
      = iprop(iprop((∃ d, owns (c : Thread nD τ) gramM fullShare d) ∗ (∃ d, owns (c : Thread nD τ) tileM fullShare d)) ∗ (∃ r, prngReg c r)) := by
  unfold Pipeline.ΦA; rw [scopedRest0_eq]; simp only [gramM, tileM, owns_whole]; try rfl

/-- Each window's current staging memref at point `t`, and its wholeness. -/
abbrev ms0 (t : Fin cfg0.N) : Memref sig .tc .vmem S4096x128 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S60x60x256 .f32 := win0_3.stage (cfg0.slots t 3)
abbrev hs3 (t : Fin cfg0.N) : (ms3 t).IsWhole := hstage0_3 ((cfg0.slots t 3).cast nbuf0_3)

-- the body is long: about 5500 operations
set_option maxHeartbeats 4424000 in
/-- The body on whole staging memrefs, the inputs' at given contents and everything it writes at any: it runs to the
    continuation holding the inputs as they were and the rest at some contents. -/
theorem bodyRun (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole)
    (x0 : Vec F S4096x128 .i32) (x1 : Vec F S128x128 .i32) (x2 : Vec F S1x256 .i32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)) -∗ K ⟨⟩))
      ⊢ wp frame (wpE (defs₀ (F := F)) Variants.none c none) E (cc0_dist i arg1 harg1 arg2 harg2 arg3 harg3 arg4 harg4 arg5 harg5 arg6 harg6) K := by
    simp only [cc0_dist_eq_skeleton]; unfold cc0_dist_skel
    simp only [k0_part95_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    have hrd0 : ∀ (𝒱 : Variants) (c : Dev nD) (bd : Option 𝒱.V) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole) (X_arg1 : BufTy.Contents (Elt F) arg1.view.ty) (hrdF : BufTy.Contents (Elt F) arg5.view.ty) (hrdB : LoadRect S8192x128), arg5.view.readAt (Elt F) hrdB (arg5.view.writes (Elt F) hrdF (pb_k0_t1 (F := F) 𝒱 c bd i arg1 harg1 arg2 harg2 arg3 harg3 arg4 harg4 arg5 harg5 arg6 harg6 X_arg1 (Scf.trips k0_t1_loop.lb k0_t1_loop.ub k0_t1_loop.st))) = arg5.view.readCov (pb_k0_t1 (F := F) 𝒱 c bd i arg1 harg1 arg2 harg2 arg3 harg3 arg4 harg4 arg5 harg5 arg6 harg6 X_arg1 (Scf.trips k0_t1_loop.lb k0_t1_loop.ub k0_t1_loop.st)) hrdB := fun 𝒱 c bd i arg1 harg1 arg2 harg2 arg3 harg3 arg4 harg4 arg5 harg5 arg6 harg6 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 X_arg1 (Scf.trips k0_t1_loop.lb k0_t1_loop.ub k0_t1_loop.st)) S64x128.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

/-- The output window, the one that is forgotten. -/
def forgets : Fin 4 → Bool := fun w => w.val == 3

/-- The proof data of the pipeline on core `c`: the arrays as launched; after the body at point `t` each input's
    buffer at its block (the counts' filled up past the array's end with any words); full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Classical.arbitrary _) (iblk m c 2 t)
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = win0_2.fill (grid0.coords t) (fun _ => Classical.arbitrary _) (iblk m c 2 t) := by
  dsimp only [dats]

/-- What the body finds in the inputs' buffers: their blocks, the counts' at any words past the array's end. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) :
    (dats m 0 c).before 2 t d = win0_2.fill (grid0.coords t) d (iblk m c 2 t) := by
  unfold Dat.before; rw [if_pos (fetch0_2 t)]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare d))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, Window.cut_fill]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩⟩
  iapply (bodyRun c (grid0.coords t) _ _ _ _ _ _ _ _ _ _ _ _ (iblk m c 0 t) (iblk m c 1 t) (win0_2.fill (grid0.coords t) d2 (iblk m c 2 t)) Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexists d2; iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligationLoose (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: the inputs' arrays as the library computes them from the proof data, every counter at zero. -/
theorem run_main : θ_run defs (onTc (τ := τ) (main (F := F))) (s₀ m ρ)
    (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := A_eq m) (hΦ := fun _ _ => rfl)

/-- THE FRAME of `Kernel`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨
      (Pipeline.RDat.FramePost.arr_in h.1 c 0 rfl).trans (A_eq m c 0),
      (Pipeline.RDat.FramePost.arr_in h.1 c 1 rfl).trans (A_eq m c 1),
      (Pipeline.RDat.FramePost.arr_in h.1 c 2 rfl).trans (A_eq m c 2)⟩, h.2⟩) (run_main m ρ)

end Cert.Kernel.Dist

end
-- ==== Proof.Run.lean ====
/-
  The body of the idealized kernel run once, on any staging buffers and any contents of the input blocks: what its 120
  stores leave in the output block, as a list of pieces (`bodyRun`), that the pieces cover the block, and what they
  leave there (`outBlock`).
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

-- a cover of a production-size block is checked one coordinate at a time
set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The two scratch operands: the Gram rows and the transposed Gram tiles. -/
abbrev gramM : Memref sig .tc .vmem S8192x128 .f32 := Memref.whole cc0_scratch0
abbrev tileM : Memref sig .tc .vmem S2x60x64x128 .f32 := Memref.whole cc0_scratch1

/-- The pipeline's invariant with the two scratch operands as memrefs owned at some contents. -/
theorem PhiA_eq (c : Dev nD) :
    (Pipeline.ΦA spec0 c : sProp 𝕄)
      = iprop(iprop((∃ d, owns (c : Thread nD τ) gramM fullShare d) ∗ (∃ d, owns (c : Thread nD τ) tileM fullShare d)) ∗ (∃ r, prngReg c r)) := by
  unfold Pipeline.ΦA; rw [scopedRest0_eq]; simp only [gramM, tileM, owns_whole]; try rfl

/-- Each window's current staging memref at point `t`, and its wholeness. -/
abbrev ms0 (t : Fin cfg0.N) : Memref sig .tc .vmem S4096x128 .i32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S60x60x256 .f32 := win0_3.stage (cfg0.slots t 3)
abbrev hs3 (t : Fin cfg0.N) : (ms3 t).IsWhole := hstage0_3 ((cfg0.slots t 3).cast nbuf0_3)

-- the body is long: about 5500 operations
set_option backward.proofsInPublic true in
set_option maxHeartbeats 4424000 in
/-- What the body's stores leave in the output's staging memref, as pieces (last first), with the proof that on whole
    staging memrefs, the inputs' at their contents and everything the body writes at any, the body runs to the
    continuation holding the inputs as they were, the scratch at some contents and the output's buffer with the pieces
    written. -/
noncomputable def bodyRun (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole)
    (x0 : Vec F S4096x128 .i32) (x1 : Vec F S128x128 .i32) (x2 : Vec F S1x256 .i32) :
    { L3 : List (View.Piece (Elt F) S60x60x256 .f32) //
      ∀ (E : Set ℕ) (K : PUnit → sProp 𝕄),
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d)) -∗ K ⟨⟩))
      ⊢ wp frame (wpE (defs₀ (F := F)) Variants.none c none) E (cc0_dist i arg1 harg1 arg2 harg2 arg3 harg3 arg4 harg4 arg5 harg5 arg6 harg6) K } := by
  refine ⟨?_, fun E K => ?run⟩
  case run =>
    simp only [cc0_dist_eq_skeleton]; unfold cc0_dist_skel
    simp only [k0_part95_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg1.eq_unread hf0; obtain rfl := harg2.eq_unread hf1; obtain rfl := harg3.eq_unread hf2
    have hrd0 : ∀ (𝒱 : Variants) (c : Dev nD) (bd : Option 𝒱.V) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole) (X_arg1 : BufTy.Contents (Elt F) arg1.view.ty) (hrdF : BufTy.Contents (Elt F) arg5.view.ty) (hrdB : LoadRect S8192x128), arg5.view.readAt (Elt F) hrdB (arg5.view.writes (Elt F) hrdF (pb_k0_t1 (F := F) 𝒱 c bd i arg1 harg1 arg2 harg2 arg3 harg3 arg4 harg4 arg5 harg5 arg6 harg6 X_arg1 (Scf.trips k0_t1_loop.lb k0_t1_loop.ub k0_t1_loop.st))) = arg5.view.readCov (pb_k0_t1 (F := F) 𝒱 c bd i arg1 harg1 arg2 harg2 arg3 harg3 arg4 harg4 arg5 harg5 arg6 harg6 X_arg1 (Scf.trips k0_t1_loop.lb k0_t1_loop.ub k0_t1_loop.st)) hrdB := fun 𝒱 c bd i arg1 harg1 arg2 harg2 arg3 harg3 arg4 harg4 arg5 harg5 arg6 harg6 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 X_arg1 (Scf.trips k0_t1_loop.lb k0_t1_loop.ub k0_t1_loop.st)) S64x128.size (by sl_kernel_rfl) (hrdB.idx hrdJ))
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]
    · iexists _, _; isplitr; swap; · iexact HS0
      ipureintro; rfl
    iexists _, _; isplitr; swap; · iexact HS1
    ipureintro; rfl

/-- The pieces cover the output block: 120 stores of one row each. -/
theorem bodyRun_cover (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole)
    (x0 : Vec F S4096x128 .i32) (x1 : Vec F S128x128 .i32) (x2 : Vec F S1x256 .i32) (y : S60x60x256.Idx) :
    ∃ pc ∈ (bodyRun c i arg1 harg1 arg2 harg2 arg3 harg3 arg4 harg4 arg5 harg5 arg6 harg6 x0 x1 x2).1, y ∈ pc.1.set :=
  View.cover_of_tiledL (bodyRun c i arg1 harg1 arg2 harg2 arg3 harg3 arg4 harg4 arg5 harg5 arg6 harg6 x0 x1 x2).1 S1x60x128.size (by sl_kernel_rfl) y

/-- What the body leaves in the output block. -/
def outBlock (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole)
    (x0 : Vec F S4096x128 .i32) (x1 : Vec F S128x128 .i32) (x2 : Vec F S1x256 .i32) : Vec F S60x60x256 .f32 :=
  View.canon (bodyRun c i arg1 harg1 arg2 harg2 arg3 harg3 arg4 harg4 arg5 harg5 arg6 harg6 x0 x1 x2).1

end Cert.KernelIdeal.Dist

end
-- ==== Proof.Pieces.lean ====
/-
  The 120 stores of the output, the 120 stores of the transposed Gram tiles they read, and the accumulated diagonals, each
  written once for a half `h` and a row `t` (`outPiece`, `tilePiece`, `diag`), and the fact that the list of stores the
  run of the body found is the list of these (`bodyRun_pieces`).
-/
module

public import proofs.«01_k».proof.Proof.Run
public import Idealize.ShloMosaic.Lib.Pipeline.Value
public import Idealize.ShloMosaic.Lib.ValueIdx

@[expose] public section

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL.Sem

variable {F : FTy → Type} [FloatOps F]

/-- The rows a transposed tile is made of: row `t` of every one of the 128 pairs. -/
theorem inb_strided (t : ℕ) (ht : t < 60) :
    ∀ a, S128x128.size a = 0 ∨ (![t, 0] : Fin 2 → Nat) a + (![64, 1] : Fin 2 → Nat) a * (S128x128.size a - 1) < S8192x128.size a := by
  intro a
  refine Or.inr ?_
  match a with
  | ⟨0, _⟩ => show t + 64 * 127 < 8192; omega
  | ⟨1, _⟩ => show 0 + 1 * 127 < 128; omega

theorem inb_tile (h t : ℕ) (hh : h < 2) (ht : t < 60) :
    ∀ a, (![h, t, 0, 0] : Fin 4 → Nat) a + S1x1x64x128.size a ≤ S2x60x64x128.size a := by
  intro a
  match a with
  | ⟨0, _⟩ => show h + 1 ≤ 2; omega
  | ⟨1, _⟩ => show t + 1 ≤ 60; omega
  | ⟨2, _⟩ => show 0 + 64 ≤ 64; omega
  | ⟨3, _⟩ => show 0 + 128 ≤ 128; omega

theorem inb_out (h t : ℕ) (hh : h < 2) (ht : t < 60) :
    ∀ a, (![t, 0, 128 * h] : Fin 3 → Nat) a + S1x60x128.size a ≤ S60x60x256.size a := by
  intro a
  match a with
  | ⟨0, _⟩ => show t + 1 ≤ 60; omega
  | ⟨1, _⟩ => show 0 + 60 ≤ 60; omega
  | ⟨2, _⟩ => show 128 * h + 128 ≤ 256; omega

theorem inb_cnt (h : ℕ) (hh : h < 2) : ∀ a, (![0, 128 * h] : Fin 2 → Nat) a + S1x128.size a ≤ S1x256.size a := by
  intro a
  match a with
  | ⟨0, _⟩ => show 0 + 1 ≤ 1; omega
  | ⟨1, _⟩ => show 128 * h + 128 ≤ 256; omega

theorem slices_half (h : ℕ) (hh : h < 2) : S128x128.Slices ![64 * h, 0] S64x128 := by
  refine ⟨rfl, fun a => ?_⟩
  match a with
  | ⟨0, _⟩ => show 64 * h + 64 ≤ 128; omega
  | ⟨1, _⟩ => show 0 + 128 ≤ 128; omega

theorem slices_row (t : ℕ) (ht : t < 60) : S64x128.Slices ![t, 0] S1x128 := by
  refine ⟨rfl, fun a => ?_⟩
  match a with
  | ⟨0, _⟩ => show t + 1 ≤ 64; omega
  | ⟨1, _⟩ => show 0 + 128 ≤ 128; omega

/-- The slot of each entry. -/
def slot : IVec S64x128 32 := iota .tc S64x128 32 [0] iota_S64x128_d0_w32

/-- Row `t` of every pair's Gram block, transposed: pairs along the lanes. -/
def tile (arg5 : Memref sig .tc .vmem S8192x128 .f32) (L : List (View.Piece (Elt F) S8192x128 .f32)) (t : ℕ) (ht : t < 60) :
    FVec F S128x128 .f32 :=
  transpose S128x128 [1, 0]
    (arg5.view.readCov L { off := ![t, 0], size := S128x128.size, stride := ![64, 1], inb := inb_strided t ht } : FVec F S128x128 .f32)
    transposes_S128x128_p1_0_S128x128

/-- One half of the slots. -/
def half (h : ℕ) (hh : h < 2) (v : FVec F S128x128 .f32) : FVec F S64x128 .f32 := extractStridedSlice S64x128 ![64 * h, 0] v (slices_half h hh)

/-- The store of the tile of half `h`, row `t`. -/
def tilePiece (arg5 : Memref sig .tc .vmem S8192x128 .f32) (L : List (View.Piece (Elt F) S8192x128 .f32)) (h t : ℕ) (hh : h < 2) (ht : t < 60) :
    View.Piece (Elt F) S2x60x64x128 .f32 :=
  ⟨Rect.unit ![h, t, 0, 0] S1x1x64x128.size (inb_tile h t hh ht),
    shapeCast S1x1x64x128 (half h hh (tile arg5 L t ht)) shapeCasts_S64x128_S1x1x64x128⟩

/-- The first `n` of the tiles' stores, last first: row by row, the two halves of a row one after the other. -/
def tilePieces (arg5 : Memref sig .tc .vmem S8192x128 .f32) (L : List (View.Piece (Elt F) S8192x128 .f32)) :
    (n : ℕ) → n ≤ 120 → List (View.Piece (Elt F) S2x60x64x128 .f32)
  | 0, _ => []
  | n + 1, h => tilePiece arg5 L (n % 2) (n / 2) (Nat.mod_lt _ (by omega)) (by omega) :: tilePieces arg5 L n (by omega)

/-- The diagonal of half `h` after the first `n` rows: slot `t`'s entry is the tile of row `t`, when `t < n`. -/
def diag (arg5 : Memref sig .tc .vmem S8192x128 .f32) (L : List (View.Piece (Elt F) S8192x128 .f32)) (h : ℕ) (hh : h < 2) :
    (n : ℕ) → n ≤ 60 → FVec F S64x128 .f32
  | 0, _ => broadcast S64x128 (Scalar.ofBits .f32 0x00000000#32)
  | n + 1, hn => select (cmpi .eq slot (broadcast S64x128 (BitVec.ofNat 32 n))) (half h hh (tile arg5 L n (by omega)))
      (diag arg5 L h hh n (by omega))

/-- The scales of half `h`, transposed: pairs along the lanes. -/
def scl (h : ℕ) (hh : h < 2) (x1 : Vec F S128x128 .i32) : FVec F S64x128 .f32 :=
  half h hh (transpose S128x128 [1, 0] (bitcastToFloat .f32 x1 : FVec F S128x128 .f32) transposes_S128x128_p1_0_S128x128)

/-- The squared norms times the squared scales. -/
def sqn (s n : FVec F S64x128 .f32) : FVec F S64x128 .f32 := mulf (mulf s s) n

/-- Twice the scales. -/
def twice (s : FVec F S64x128 .f32) : FVec F S64x128 .f32 := mulf (broadcast S64x128 (Scalar.ofBits .f32 0x40000000#32)) s

/-- Row `t` of the output for one half: from the scales, the squared norms, the counts and the row's Gram tile. -/
def rowOf (t : ℕ) (ht : t < 60) (s q : FVec F S64x128 .f32) (cnt : Vec F S1x128 .i32) (g : Vec F S1x1x64x128 .f32) : FVec F S1x60x128 .f32 :=
  shapeCast S1x60x128
    (extractStridedSlice S60x128 ![0, 0]
      (select
        (andi (cmpi .slt slot (broadcastTo S64x128 cnt broadcasts_S1x128_S64x128))
          (broadcastTo S64x128 (cmpi .sgt cnt (broadcast S1x128 (BitVec.ofNat 32 t))) broadcasts_S1x128_S64x128))
        (subf (addf (broadcastTo S64x128 (extractStridedSlice S1x128 ![t, 0] q (slices_row t ht)) broadcasts_S1x128_S64x128) q)
          (mulf (mulf (broadcastTo S64x128 (extractStridedSlice S1x128 ![t, 0] (twice s) (slices_row t ht)) broadcasts_S1x128_S64x128) s)
            (shapeCast S64x128 g shapeCasts_S1x1x64x128_S64x128)))
        (broadcast S64x128 (Scalar.ofBits .f32 0xBF800000#32)))
      slices_S64x128_o0_0_S60x128)
    shapeCasts_S60x128_S1x60x128

/-- The store of row `t` of half `h`. -/
def outPiece (arg2 : Memref sig .tc .vmem S128x128 .i32) (harg2 : arg2.IsWhole) (arg3 : Memref sig .tc .vmem S1x256 .i32) (harg3 : arg3.IsWhole)
    (arg5 : Memref sig .tc .vmem S8192x128 .f32) (arg6 : Memref sig .tc .vmem S2x60x64x128 .f32) (L : List (View.Piece (Elt F) S8192x128 .f32))
    (x1 : Vec F S128x128 .i32) (x2 : Vec F S1x256 .i32) (h t : ℕ) (hh : h < 2) (ht : t < 60) :
    View.Piece (Elt F) S60x60x256 .f32 :=
  ⟨Rect.unit ![t, 0, 128 * h] S1x60x128.size (inb_out h t hh ht),
    rowOf t ht
      (scl h hh (View.readAt (Elt F) arg2.view (Rect.unit (s := S128x128) ![0, 0] S128x128.size inb_S128x128_S128x128_0_0).toLoadRect (harg2.unread x1)))
      (sqn (scl h hh (View.readAt (Elt F) arg2.view (Rect.unit (s := S128x128) ![0, 0] S128x128.size inb_S128x128_S128x128_0_0).toLoadRect (harg2.unread x1)))
        (diag arg5 L h hh 60 (Nat.le_refl _)))
      (View.readAt (Elt F) arg3.view (Rect.unit (s := S1x256) ![0, 128 * h] S1x128.size (inb_cnt h hh)).toLoadRect (harg3.unread x2))
      (arg6.view.readCov (tilePieces arg5 L 120 (Nat.le_refl _)) (Rect.unit (s := S2x60x64x128) ![h, t, 0, 0] S1x1x64x128.size (inb_tile h t hh ht)).toLoadRect)⟩

/-- The first `n` of the output's stores, last first: half by half, the 60 rows of a half one after the other. -/
def outPieces (arg2 : Memref sig .tc .vmem S128x128 .i32) (harg2 : arg2.IsWhole) (arg3 : Memref sig .tc .vmem S1x256 .i32) (harg3 : arg3.IsWhole)
    (arg5 : Memref sig .tc .vmem S8192x128 .f32) (arg6 : Memref sig .tc .vmem S2x60x64x128 .f32) (L : List (View.Piece (Elt F) S8192x128 .f32))
    (x1 : Vec F S128x128 .i32) (x2 : Vec F S1x256 .i32) : (n : ℕ) → n ≤ 120 → List (View.Piece (Elt F) S60x60x256 .f32)
  | 0, _ => []
  | n + 1, h => outPiece arg2 harg2 arg3 harg3 arg5 arg6 L x1 x2 (n / 60) (n % 60) (by omega) (Nat.mod_lt _ (by omega))
      :: outPieces arg2 harg2 arg3 harg3 arg5 arg6 L x1 x2 n (by omega)

/-- The loop's stores: one Gram block for each of the 128 pairs. -/
def gramPieces (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole) (x0 : Vec F S4096x128 .i32) : List (View.Piece (Elt F) S8192x128 .f32) :=
  pb_k0_t1 Variants.none c none i arg1 harg1 arg2 harg2 arg3 harg3 arg4 harg4 arg5 harg5 arg6 harg6 (harg1.unread x0) (Scf.trips k0_t1_loop.lb k0_t1_loop.ub k0_t1_loop.st)

set_option maxHeartbeats 4000000 in
/-- The stores the run of the body found are these. -/
theorem bodyRun_pieces (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole)
    (x0 : Vec F S4096x128 .i32) (x1 : Vec F S128x128 .i32) (x2 : Vec F S1x256 .i32) :
    (bodyRun c i arg1 harg1 arg2 harg2 arg3 harg3 arg4 harg4 arg5 harg5 arg6 harg6 x0 x1 x2).1 = outPieces arg2 harg2 arg3 harg3 arg5 arg6 (gramPieces c i arg1 harg1 arg2 harg2 arg3 harg3 arg4 harg4 arg5 harg5 arg6 harg6 x0) x1 x2 120 (Nat.le_refl _) := by
  sl_kernel_rfl

end Cert.KernelIdeal.Dist

end
-- ==== Proof.Block.lean ====
/-
  What the body leaves in its output block, entry by entry (`outBlock_apply`): the masked squared distance made from
  the Gram rows the loop stored, the scales block and the counts block, at any float instance.
-/
module

public import proofs.«01_k».proof.Proof.Pieces
public import Idealize.ShloMosaic.Lib.Pointwise.ElementwiseCore

@[expose] public section

noncomputable section

namespace Cert.KernelIdeal.Dist

open Cert.KernelIdeal Cert.KernelIdeal.Gen
open Idealize.ShloMosaic Idealize.ShloMosaic.TcCoe Idealize.ShloMosaic.Tactic
open Idealize.SL.Sem
open Idealize.ShloMosaic.ValueIdx

variable {F : FTy → Type} [FloatOps F]

/-- The scale of slot `k` of half `h` of pair `p`, from the scales block. -/
def sclAt (x1 : Vec F S128x128 .i32) (h p k : ℕ) (hh : h < 2) (hp : p < 128) (hk : k < 64) : F .f32 :=
  FloatOps.ofBits .f32 (x1 (ix2 (⟨p, hp⟩ : Fin 128) (⟨64 * h + k, by omega⟩ : Fin 128)))

/-- The Gram entry of slots `a` and `b` of half `h` of pair `p`, from the Gram rows. -/
def gramAt (Y : FVec F S8192x128 .f32) (h p a b : ℕ) (hh : h < 2) (hp : p < 128) (ha : a < 64) (hb : b < 64) : F .f32 :=
  Y (ix2 (⟨a + 64 * p, by omega⟩ : Fin 8192) (⟨64 * h + b, by omega⟩ : Fin 128))

/-- The masked squared distance of two slots, from their scales, Gram entries and the count. -/
def distOf (t j : ℕ) (cnt : BitVec 32) (st sj gt gj g : F .f32) : F .f32 :=
  Scalar.select (IntOp.andi (IntOp.cmpi .slt (BitVec.ofNat 32 j) cnt) (IntOp.cmpi .sgt cnt (BitVec.ofNat 32 t)))
    (FloatOps.subf
      (FloatOps.addf (FloatOps.mulf (FloatOps.mulf st st) gt) (FloatOps.mulf (FloatOps.mulf sj sj) gj))
      (FloatOps.mulf (FloatOps.mulf (FloatOps.mulf (Scalar.ofBits .f32 0x40000000#32) st) sj) g))
    (Scalar.ofBits .f32 0xBF800000#32)

/-- The output block's entry for slots `t` and `j` of half `h` of pair `p`. -/
def entry (Y : FVec F S8192x128 .f32) (x1 : Vec F S128x128 .i32) (cnt : BitVec 32) (h p t j : ℕ) (hh : h < 2) (hp : p < 128) (ht : t < 60)
    (hj : j < 60) : F .f32 :=
  distOf t j cnt (sclAt x1 h p t hh hp (by omega)) (sclAt x1 h p j hh hp (by omega))
    (gramAt Y h p t t hh hp (by omega) (by omega)) (gramAt Y h p j j hh hp (by omega) (by omega)) (gramAt Y h p t j hh hp (by omega) (by omega))

theorem entry_congr (Y : FVec F S8192x128 .f32) (x1 : Vec F S128x128 .i32) {cnt cnt' : BitVec 32} {h h' p p' t t' j j' : ℕ} (hh : h < 2)
    (hp : p < 128) (ht : t < 60) (hj : j < 60) (ec : cnt = cnt') (eh : h = h') (ep : p = p') (et : t = t') (ej : j = j') :
    entry Y x1 cnt h p t j hh hp ht hj = entry Y x1 cnt' h' p' t' j' (by omega) (by omega) (by omega) (by omega) := by
  subst ec eh ep et ej; rfl

/-- A half of a `[128, 128]` value at an index. -/
theorem half_apply (h : ℕ) (hh : h < 2) (v : FVec F S128x128 .f32) (a : Fin 64) (p : Fin 128) :
    half h hh v (ix2 a p) = v (ix2 (⟨64 * h + a.val, by omega⟩ : Fin 128) p) := by
  unfold half
  refine extractStridedSlice_apply _ _ _ _ _ fun d => ?_
  match d with
  | ⟨0, _⟩ => rfl
  | ⟨1, _⟩ => show p.val = 0 + p.val; omega

theorem transpose_ix2 (v : FVec F S128x128 .f32) (a b : Fin 128) :
    transpose S128x128 [1, 0] v transposes_S128x128_p1_0_S128x128 (ix2 a b) = v (ix2 b a) := by
  refine transpose_apply (s := S128x128) (t := S128x128) _ _ _ _ _ fun d => ?_
  match d with
  | ⟨0, _⟩ => rfl
  | ⟨1, _⟩ => rfl

/-- A half of a row's transposed tile at an index is a Gram entry. -/
theorem half_tile_apply (arg5 : Memref sig .tc .vmem S8192x128 .f32) (L : List (View.Piece (Elt F) S8192x128 .f32)) (h t : ℕ) (hh : h < 2)
    (ht : t < 60) (a : Fin 64) (p : Fin 128) :
    half h hh (tile arg5 L t ht) (ix2 a p) = gramAt (View.canon L) h p.val t a.val hh p.isLt (by omega) a.isLt := by
  rw [half_apply]
  unfold tile
  rw [transpose_ix2, View.readCov_eq_canon']
  unfold gramAt
  show View.canon L _ = View.canon L _
  refine congrArg _ (funext fun d => Fin.ext ?_)
  match d with
  | ⟨0, _⟩ => show t + 64 * p.val = t + 64 * p.val; rfl
  | ⟨1, _⟩ => show 0 + 1 * (64 * h + a.val) = 64 * h + a.val; omega

/-- The scales of a half at an index. -/
theorem scl_apply (h : ℕ) (hh : h < 2) (x1 : Vec F S128x128 .i32) (a : Fin 64) (p : Fin 128) :
    scl h hh x1 (ix2 a p) = sclAt x1 h p.val a.val hh p.isLt a.isLt := by
  unfold scl
  rw [half_apply, transpose_ix2]; rfl

/-- The diagonal after `n` rows, at a slot already seen. -/
theorem diag_apply (arg5 : Memref sig .tc .vmem S8192x128 .f32) (L : List (View.Piece (Elt F) S8192x128 .f32)) (h : ℕ) (hh : h < 2)
    (a : Fin 64) (p : Fin 128) : ∀ (n : ℕ) (hn : n ≤ 60), a.val < n →
    diag arg5 L h hh n hn (ix2 a p) = gramAt (View.canon L) h p.val a.val a.val hh p.isLt a.isLt a.isLt
  | 0, _, ha => absurd ha (Nat.not_lt_zero _)
  | n + 1, hn, ha => by
    unfold diag
    rw [ValueIdx.select_apply]
    have hc : (cmpi .eq slot (broadcast S64x128 (BitVec.ofNat 32 n))) (ix2 a p) = BitVec.ofBool (decide (a.val = n)) := by
      show IntOp.cmpi .eq (slot (ix2 a p)) (BitVec.ofNat 32 n) = _
      unfold slot
      rw [iota_single_apply]
      unfold IntOp.cmpi
      congr 1
      show (BitVec.ofNat 32 a.val == BitVec.ofNat 32 n) = _
      rw [beq_eq_decide, decide_eq_decide]
      constructor
      · intro e
        have := congrArg BitVec.toNat e
        simp only [BitVec.toNat_ofNat] at this
        have := a.isLt
        omega
      · intro e; rw [e]
    rw [hc]
    by_cases e : a.val = n
    · rw [decide_eq_true e]
      have : Scalar.select (BitVec.ofBool true) (half h hh (tile arg5 L n (by omega)) (ix2 a p)) (diag arg5 L h hh n (by omega) (ix2 a p))
          = half h hh (tile arg5 L n (by omega)) (ix2 a p) := if_pos rfl
      rw [this, half_tile_apply]
      subst e; rfl
    · rw [decide_eq_false e]
      have : Scalar.select (BitVec.ofBool false) (half h hh (tile arg5 L n (by omega)) (ix2 a p)) (diag arg5 L h hh n (by omega) (ix2 a p))
          = diag arg5 L h hh n (by omega) (ix2 a p) := if_neg (by decide)
      rw [this]
      exact diag_apply arg5 L h hh a p n (by omega) (by omega)

theorem bcast_apply {α : Type} (v : S1x128.Idx → α) (a : Fin 64) (p : Fin 128) :
    broadcastTo S64x128 v broadcasts_S1x128_S64x128 (ix2 a p) = v (ix2 (0 : Fin 1) p) := by
  refine broadcastTo_apply (s := S1x128) (t := S64x128) _ _ _ _ fun d => ?_
  match d with
  | ⟨0, _⟩ => rfl
  | ⟨1, _⟩ => rfl

theorem row_apply {α : Type} (t : ℕ) (ht : t < 60) (v : S64x128.Idx → α) (p : Fin 128) :
    extractStridedSlice S1x128 ![t, 0] v (slices_row t ht) (ix2 (0 : Fin 1) p) = v (ix2 (⟨t, by omega⟩ : Fin 64) p) := by
  refine extractStridedSlice_apply _ _ _ _ _ fun d => ?_
  match d with
  | ⟨0, _⟩ => rfl
  | ⟨1, _⟩ => show p.val = 0 + p.val; omega

theorem drop_apply {α : Type} (v : S1x1x64x128.Idx → α) (a : Fin 64) (p : Fin 128) :
    shapeCast S64x128 v shapeCasts_S1x1x64x128_S64x128 (ix2 a p) = v (ix4 (0 : Fin 1) (0 : Fin 1) a p) := by
  refine shapeCast_apply (s := S1x1x64x128) (t := S64x128) _ _ _ _ ?_
  rw [Shape.rowMajor_val_four, Shape.rowMajor_val_two]
  show ((0 * 1 + 0) * 64 + a.val) * 128 + p.val = a.val * 128 + p.val
  omega

theorem add_apply {α : Type} (v : S64x128.Idx → α) (a : Fin 64) (p : Fin 128) :
    shapeCast S1x1x64x128 v shapeCasts_S64x128_S1x1x64x128 (ix4 (0 : Fin 1) (0 : Fin 1) a p) = v (ix2 a p) := by
  refine shapeCast_apply (s := S64x128) (t := S1x1x64x128) _ _ _ _ ?_
  rw [Shape.rowMajor_val_four, Shape.rowMajor_val_two]
  show a.val * 128 + p.val = ((0 * 1 + 0) * 64 + a.val) * 128 + p.val
  omega

theorem out_apply {α : Type} (v : S64x128.Idx → α) (a : Fin 60) (p : Fin 128) :
    shapeCast S1x60x128 (extractStridedSlice S60x128 ![0, 0] v slices_S64x128_o0_0_S60x128) shapeCasts_S60x128_S1x60x128 (ix3 (0 : Fin 1) a p)
      = v (ix2 (⟨a.val, by omega⟩ : Fin 64) p) := by
  refine (shapeCast_apply (s := S60x128) (t := S1x60x128) _ _ _ (ix2 a p) ?_).trans ?_
  · rw [Shape.rowMajor_val_three, Shape.rowMajor_val_two]
    show a.val * 128 + p.val = (0 * 60 + a.val) * 128 + p.val
    omega
  · refine extractStridedSlice_apply _ _ _ _ _ fun d => ?_
    match d with
    | ⟨0, _⟩ => show a.val = 0 + a.val; omega
    | ⟨1, _⟩ => show p.val = 0 + p.val; omega

/-- A row of the output for one half, at an index. -/
theorem rowOf_apply (t : ℕ) (ht : t < 60) (s n : FVec F S64x128 .f32) (cnt : Vec F S1x128 .i32) (g : Vec F S1x1x64x128 .f32) (a : Fin 60)
    (p : Fin 128) :
    rowOf t ht s (sqn s n) cnt g (ix3 (0 : Fin 1) a p)
      = distOf t a.val (cnt (ix2 (0 : Fin 1) p)) (s (ix2 (⟨t, by omega⟩ : Fin 64) p)) (s (ix2 (⟨a.val, by omega⟩ : Fin 64) p))
          (n (ix2 (⟨t, by omega⟩ : Fin 64) p)) (n (ix2 (⟨a.val, by omega⟩ : Fin 64) p)) (g (ix4 (0 : Fin 1) (0 : Fin 1) (⟨a.val, by omega⟩ : Fin 64) p)) := by
  unfold rowOf
  rw [out_apply, ValueIdx.select_apply]
  simp only [Idealize.ShloMosaic.andi_apply, Idealize.ShloMosaic.cmpi_apply, Idealize.ShloMosaic.subf_apply, Idealize.ShloMosaic.addf_apply, Idealize.ShloMosaic.mulf_apply, bcast_apply, row_apply t ht, drop_apply]
  unfold slot
  rw [iota_single_apply]
  rfl

/-- The tiles' stores leave the Gram entries. -/
theorem tilePieces_mem (arg5 : Memref sig .tc .vmem S8192x128 .f32) (L : List (View.Piece (Elt F) S8192x128 .f32)) :
    ∀ (n : ℕ) (hn : n ≤ 120) (pc : View.Piece (Elt F) S2x60x64x128 .f32), pc ∈ tilePieces arg5 L n hn →
      ∃ (h t : ℕ) (hh : h < 2) (ht : t < 60), pc = tilePiece arg5 L h t hh ht
  | 0, _, _, hm => absurd hm List.not_mem_nil
  | n + 1, hn, pc, hm => by
    unfold tilePieces at hm
    rcases List.mem_cons.1 hm with e | e
    · exact ⟨_, _, _, _, e⟩
    · exact tilePieces_mem arg5 L n (by omega) pc e

theorem mem_tilePieces (arg5 : Memref sig .tc .vmem S8192x128 .f32) (L : List (View.Piece (Elt F) S8192x128 .f32)) (h t : ℕ) (hh : h < 2)
    (ht : t < 60) : ∀ (n : ℕ) (hn : n ≤ 120), 2 * t + h < n → tilePiece arg5 L h t hh ht ∈ tilePieces arg5 L n hn
  | 0, _, hl => absurd hl (Nat.not_lt_zero _)
  | n + 1, hn, hl => by
    unfold tilePieces
    by_cases e : 2 * t + h = n
    · have e1 : n % 2 = h := by omega
      have e2 : n / 2 = t := by omega
      subst e1 e2
      exact List.mem_cons_self
    · exact List.mem_cons_of_mem _ (mem_tilePieces arg5 L h t hh ht n (by omega) (by omega))

/-- The tile array's value. -/
def tileFn (Y : FVec F S8192x128 .f32) : FVec F S2x60x64x128 .f32 := fun y =>
  gramAt Y (y 0).val (y 3).val (y 1).val (y 2).val (y 0).isLt (y 3).isLt (Nat.lt_of_lt_of_le (y 1).isLt (show (60 : ℕ) ≤ 64 by omega)) (y 2).isLt

theorem gramAt_congr (Y : FVec F S8192x128 .f32) {h h' p p' a a' b b' : ℕ} (hh : h < 2) (hp : p < 128) (ha : a < 64) (hb : b < 64)
    (eh : h = h') (ep : p = p') (ea : a = a') (eb : b = b') :
    gramAt Y h p a b hh hp ha hb = gramAt Y h' p' a' b' (by omega) (by omega) (by omega) (by omega) := by
  subst eh ep ea eb; rfl

theorem tilePiece_fn (arg5 : Memref sig .tc .vmem S8192x128 .f32) (L : List (View.Piece (Elt F) S8192x128 .f32)) (h t : ℕ) (hh : h < 2)
    (ht : t < 60) (x : (tilePiece arg5 L h t hh ht).1.shape.Idx) :
    (tilePiece arg5 L h t hh ht).2 x = tileFn (View.canon L) ((tilePiece arg5 L h t hh ht).1.emb x) := by
  obtain ⟨a, p, rfl⟩ : ∃ (a : Fin 64) (p : Fin 128), x = ix4 (0 : Fin 1) (0 : Fin 1) a p := ⟨x 2, x 3, by
    funext d
    match d with
    | ⟨0, _⟩ => exact Subsingleton.elim (α := Fin 1) _ _
    | ⟨1, _⟩ => exact Subsingleton.elim (α := Fin 1) _ _
    | ⟨2, _⟩ => rfl
    | ⟨3, _⟩ => rfl⟩
  refine (add_apply (half h hh (tile arg5 L t ht)) a p).trans ?_
  rw [half_tile_apply]
  exact gramAt_congr _ _ _ _ _ (show h = h + 1 * 0 by omega) (show p.val = 0 + 1 * p.val by omega) (show t = t + 1 * 0 by omega)
    (show a.val = 0 + 1 * a.val by omega)

/-- A tile read back is the Gram entries of its half and row. -/
theorem tile_read (arg5 : Memref sig .tc .vmem S8192x128 .f32) (arg6 : Memref sig .tc .vmem S2x60x64x128 .f32)
    (L : List (View.Piece (Elt F) S8192x128 .f32)) (h t : ℕ) (hh : h < 2) (ht : t < 60) (a : Fin 64) (p : Fin 128) :
    (arg6.view.readCov (tilePieces arg5 L 120 (Nat.le_refl _)) (Rect.unit (s := S2x60x64x128) ![h, t, 0, 0] S1x1x64x128.size (inb_tile h t hh ht)).toLoadRect
        : Vec F S1x1x64x128 .f32) (ix4 (0 : Fin 1) (0 : Fin 1) a p)
      = gramAt (View.canon L) h p.val t a.val hh p.isLt (by omega) a.isLt := by
  rw [View.readCov_eq_canon']
  refine (View.canon_apply_of_pieces (tileFn (View.canon L)) _ (fun pc hpc x => ?_) _ ⟨_, mem_tilePieces arg5 L h t hh ht 120 (Nat.le_refl _) (by omega), ?_⟩).trans ?_
  · obtain ⟨h', t', hh', ht', rfl⟩ := tilePieces_mem arg5 L 120 _ pc hpc
    exact tilePiece_fn arg5 L h' t' hh' ht' x
  · exact (Rect.unit (s := S2x60x64x128) ![h, t, 0, 0] S1x1x64x128.size (inb_tile h t hh ht)).toLoadRect.idx_mem _
  · exact gramAt_congr _ _ _ _ _ (show h + 1 * 0 = h by omega) (show 0 + 1 * p.val = p.val by omega) (show t + 1 * 0 = t by omega)
      (show 0 + 1 * a.val = a.val by omega)

/-- The output block's value. -/
def blockFn (Y : FVec F S8192x128 .f32) (x1 : Vec F S128x128 .i32) (x2 : Vec F S1x256 .i32) : Vec F S60x60x256 .f32 := fun y =>
  entry Y x1 (x2 (ix2 (0 : Fin 1) (y 2))) ((y 2).val / 128) ((y 2).val % 128) (y 0).val (y 1).val
    (by have h : (y 2).val < 256 := (y 2).isLt; omega) (Nat.mod_lt _ (by omega)) (y 0).isLt (y 1).isLt

theorem outPieces_mem (arg2 : Memref sig .tc .vmem S128x128 .i32) (harg2 : arg2.IsWhole) (arg3 : Memref sig .tc .vmem S1x256 .i32) (harg3 : arg3.IsWhole)
    (arg5 : Memref sig .tc .vmem S8192x128 .f32) (arg6 : Memref sig .tc .vmem S2x60x64x128 .f32) (L : List (View.Piece (Elt F) S8192x128 .f32))
    (x1 : Vec F S128x128 .i32) (x2 : Vec F S1x256 .i32) :
    ∀ (n : ℕ) (hn : n ≤ 120) (pc : View.Piece (Elt F) S60x60x256 .f32), pc ∈ outPieces arg2 harg2 arg3 harg3 arg5 arg6 L x1 x2 n hn →
      ∃ (h t : ℕ) (hh : h < 2) (ht : t < 60), pc = outPiece arg2 harg2 arg3 harg3 arg5 arg6 L x1 x2 h t hh ht
  | 0, _, _, hm => absurd hm List.not_mem_nil
  | n + 1, hn, pc, hm => by
    unfold outPieces at hm
    rcases List.mem_cons.1 hm with e | e
    · exact ⟨_, _, _, _, e⟩
    · exact outPieces_mem arg2 harg2 arg3 harg3 arg5 arg6 L x1 x2 n (by omega) pc e

theorem outPiece_fn (arg2 : Memref sig .tc .vmem S128x128 .i32) (harg2 : arg2.IsWhole) (arg3 : Memref sig .tc .vmem S1x256 .i32) (harg3 : arg3.IsWhole)
    (arg5 : Memref sig .tc .vmem S8192x128 .f32) (arg6 : Memref sig .tc .vmem S2x60x64x128 .f32) (L : List (View.Piece (Elt F) S8192x128 .f32))
    (x1 : Vec F S128x128 .i32) (x2 : Vec F S1x256 .i32) (h t : ℕ) (hh : h < 2) (ht : t < 60)
    (x : (outPiece arg2 harg2 arg3 harg3 arg5 arg6 L x1 x2 h t hh ht).1.shape.Idx) :
    (outPiece arg2 harg2 arg3 harg3 arg5 arg6 L x1 x2 h t hh ht).2 x
      = blockFn (View.canon L) x1 x2 ((outPiece arg2 harg2 arg3 harg3 arg5 arg6 L x1 x2 h t hh ht).1.emb x) := by
  obtain ⟨a, p, rfl⟩ : ∃ (a : Fin 60) (p : Fin 128), x = ix3 (0 : Fin 1) a p := ⟨x 1, x 2, by
    funext d
    match d with
    | ⟨0, _⟩ => exact Subsingleton.elim (α := Fin 1) _ _
    | ⟨1, _⟩ => rfl
    | ⟨2, _⟩ => rfl⟩
  have hx1 : View.readAt (Elt F) arg2.view (Rect.unit (s := S128x128) ![0, 0] S128x128.size inb_S128x128_S128x128_0_0).toLoadRect (harg2.unread x1) = x1 := by
    rw [View.readAt_eq_ld, harg2.read_unread]
    funext k
    refine congrArg x1 (funext fun d => Fin.ext ?_)
    match d with
    | ⟨0, _⟩ => show 0 + 1 * (k 0).val = (k 0).val; omega
    | ⟨1, _⟩ => show 0 + 1 * (k 1).val = (k 1).val; omega
  have hx2 : (View.readAt (Elt F) arg3.view (Rect.unit (s := S1x256) ![0, 128 * h] S1x128.size (inb_cnt h hh)).toLoadRect (harg3.unread x2) : Vec F S1x128 .i32)
      (ix2 (0 : Fin 1) p) = x2 (ix2 (0 : Fin 1) (⟨128 * h + p.val, by omega⟩ : Fin 256)) := by
    rw [View.readAt_eq_ld, harg3.read_unread]
    refine congrArg x2 (funext fun d => Fin.ext ?_)
    match d with
    | ⟨0, _⟩ => rfl
    | ⟨1, _⟩ => show 128 * h + 1 * p.val = 128 * h + p.val; omega
  refine (rowOf_apply t ht _ _ _ _ a p).trans ?_
  rw [hx1, hx2]
  simp only [scl_apply]
  rw [diag_apply arg5 L h hh (⟨t, by omega⟩ : Fin 64) p 60 (Nat.le_refl _) ht, diag_apply arg5 L h hh _ p 60 (Nat.le_refl _) a.isLt, tile_read arg5 arg6 L h t hh ht]
  have e2 : ((outPiece arg2 harg2 arg3 harg3 arg5 arg6 L x1 x2 h t hh ht).1.emb (ix3 (0 : Fin 1) a p) 2) = (⟨128 * h + p.val, by omega⟩ : Fin 256) :=
    Fin.ext (show 128 * h + 1 * p.val = 128 * h + p.val by omega)
  unfold blockFn
  exact entry_congr (View.canon L) x1 (cnt := x2 (ix2 (0 : Fin 1) (⟨128 * h + p.val, by omega⟩ : Fin 256))) hh p.isLt ht a.isLt (by rw [e2])
    (by rw [e2]; show h = (128 * h + p.val) / 128; omega) (by rw [e2]; show p.val = (128 * h + p.val) % 128; omega)
    (show t = t + 1 * 0 by omega) (show a.val = 0 + 1 * a.val by omega)

/-- What the body leaves in its output block. -/
theorem outBlock_eq (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole)
    (x0 : Vec F S4096x128 .i32) (x1 : Vec F S128x128 .i32) (x2 : Vec F S1x256 .i32) :
    outBlock c i arg1 harg1 arg2 harg2 arg3 harg3 arg4 harg4 arg5 harg5 arg6 harg6 x0 x1 x2 = blockFn (View.canon (gramPieces c i arg1 harg1 arg2 harg2 arg3 harg3 arg4 harg4 arg5 harg5 arg6 harg6 x0)) x1 x2 := by
  funext y
  unfold outBlock
  refine View.canon_apply_of_pieces _ _ (fun pc hpc x => ?_) y (bodyRun_cover c i arg1 harg1 arg2 harg2 arg3 harg3 arg4 harg4 arg5 harg5 arg6 harg6 x0 x1 x2 y)
  rw [bodyRun_pieces] at hpc
  obtain ⟨h, t, hh, ht, rfl⟩ := outPieces_mem _ _ _ _ _ _ _ _ _ 120 _ pc hpc
  exact outPiece_fn _ _ _ _ _ _ _ _ _ h t hh ht x

end Cert.KernelIdeal.Dist

end
-- ==== Proof.Gram.lean ====
/-
  What the loop of the body leaves in the scratch of Gram rows: the block of pair `p` is `gramOf` of the 32 word rows of
  that pair, whatever the buffers it ran in (`gram_canon`).
-/
module

public import proofs.«01_k».proof.Proof.Block

@[expose] public section

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL.Sem
open Idealize.ShloMosaic.ValueIdx

variable {F : FTy → Type} [FloatOps F]

/-- The three of the four shifted copies that the words of a pair are gathered from, each masked to its byte. -/
def gathered (w : Vec F S32x128 .i32) : IVec S32x128 32 :=
  k0_pay12 k0_pay2 (k0_pay8 w k0_pay2 k0_pay3 (Scalar.select (Scalar.cmpi .eq 4#32 0#32) 1#32 4#32) k0_pay4 k0_pay5 k0_pay6 k0_pay7)
    (k0_pay10 w) (k0_pay11 w)

/-- The Gram block of one pair, from its 32 rows of words. -/
def gramOf (w : Vec F S32x128 .i32) : FVec F S64x128 .f32 :=
  k0_pay18 (gathered w) (k0_pay13 w) k0_pay14 (Scalar.select (Scalar.cmpi .eq 4#32 0#32) 1#32 4#32) (k0_pay15 k0_pay2) (k0_pay16 k0_pay2) k0_pay17

/-- The rows of words of pair `p`. -/
def pairRows (x0 : Vec F S4096x128 .i32) (p : ℕ) (hp : p < 128) : Vec F S32x128 .i32 := fun k =>
  x0 (ix2 (⟨32 * p + (k 0).val, by have h : (k 0).val < 32 := (k 0).isLt; omega⟩ : Fin 4096) (k 1))

/-- The Gram rows of the 128 pairs of a block. -/
def gramRows (x0 : Vec F S4096x128 .i32) : FVec F S8192x128 .f32 := fun y =>
  gramOf (pairRows x0 ((y 0).val / 64) (by have h : (y 0).val < 8192 := (y 0).isLt; omega))
    (ix2 (⟨(y 0).val % 64, Nat.mod_lt _ (by omega)⟩ : Fin 64) (y 1))

/-- The store of trip `k`. -/
def gramPiece (arg1 : Memref sig .tc .vmem S4096x128 .i32) (X : BufTy.Contents (Elt F) arg1.view.ty) (k : Fin k0_t1_loop.trips) :
    View.Piece (Elt F) S8192x128 .f32 :=
  ⟨Rect.unit (s := S8192x128) (k0_off2 k) S64x128.size (k0_off2_inb k),
    gramOf (arg1.view.readAt (Elt F) (Rect.unit (s := S4096x128) (k0_off1 k) S32x128.size (k0_off1_inb k)).toLoadRect X)⟩

/-- The stores of one trip of the loop. -/
theorem trip_pieces (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole) (X : BufTy.Contents (Elt F) arg1.view.ty) (k : Fin k0_t1_loop.trips) :
    tripL_k0_t1 (F := F) Variants.none c none i arg1 harg1 arg2 harg2 arg3 harg3 arg4 harg4 arg5 harg5 arg6 harg6 X k = [gramPiece arg1 X k] := by
  sl_kernel_rfl

theorem trips_eq : k0_t1_loop.trips = 128 := by decide +kernel

theorem pb_mem (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole) (X : BufTy.Contents (Elt F) arg1.view.ty) :
    ∀ (n : ℕ) (hn : n ≤ k0_t1_loop.trips) (pc : View.Piece (Elt F) S8192x128 .f32),
      pc ∈ pb_k0_t1 (F := F) Variants.none c none i arg1 harg1 arg2 harg2 arg3 harg3 arg4 harg4 arg5 harg5 arg6 harg6 X n → ∃ k, pc = gramPiece arg1 X k
  | 0, _, _, hm => absurd hm List.not_mem_nil
  | n + 1, hn, pc, hm => by
    rw [pb_k0_t1_succ Variants.none c none i arg1 harg1 arg2 harg2 arg3 harg3 arg4 harg4 arg5 harg5 arg6 harg6 X ⟨n, hn⟩, trip_pieces] at hm
    rcases List.mem_cons.1 hm with e | e
    · exact ⟨_, e⟩
    · exact pb_mem c i arg1 harg1 arg2 harg2 arg3 harg3 arg4 harg4 arg5 harg5 arg6 harg6 X n (Nat.le_of_succ_le hn) pc e

theorem mem_pb (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole) (X : BufTy.Contents (Elt F) arg1.view.ty) (k : Fin k0_t1_loop.trips) :
    ∀ (n : ℕ) (hn : n ≤ k0_t1_loop.trips), k.val < n → gramPiece arg1 X k ∈ pb_k0_t1 (F := F) Variants.none c none i arg1 harg1 arg2 harg2 arg3 harg3 arg4 harg4 arg5 harg5 arg6 harg6 X n
  | 0, _, hl => absurd hl (Nat.not_lt_zero _)
  | n + 1, hn, hl => by
    rw [pb_k0_t1_succ Variants.none c none i arg1 harg1 arg2 harg2 arg3 harg3 arg4 harg4 arg5 harg5 arg6 harg6 X ⟨n, hn⟩, trip_pieces]
    by_cases e : k.val = n
    · have : k = ⟨n, hn⟩ := Fin.ext e
      subst this
      exact List.mem_cons_self
    · exact List.mem_cons_of_mem _ (mem_pb c i arg1 harg1 arg2 harg2 arg3 harg3 arg4 harg4 arg5 harg5 arg6 harg6 X k n (Nat.le_of_succ_le hn) (by omega))

/-- What trip `k` loads is the rows of words of pair `k`. -/
theorem gram_load (arg1 : Memref sig .tc .vmem S4096x128 .i32) (harg1 : arg1.IsWhole) (x0 : Vec F S4096x128 .i32) (k : Fin k0_t1_loop.trips) :
    (arg1.view.readAt (Elt F) (Rect.unit (s := S4096x128) (k0_off1 k) S32x128.size (k0_off1_inb k)).toLoadRect (harg1.unread x0) : Vec F S32x128 .i32)
      = pairRows x0 k.val (trips_eq ▸ k.isLt) := by
  funext x
  refine (congrFun (harg1.read_unread x0) _).trans ?_
  unfold pairRows
  refine congrArg x0 (funext fun d => Fin.ext ?_)
  match d with
  | ⟨0, _⟩ =>
    have e : k0_off1 k 0 = 32 * k.val := congrFun (k0_off1_eq k) 0
    show k0_off1 k 0 + 1 * (x 0).val = 32 * k.val + (x 0).val
    omega
  | ⟨1, _⟩ =>
    have e : k0_off1 k 1 = 0 := congrFun (k0_off1_eq k) 1
    show k0_off1 k 1 + 1 * (x 1).val = (x 1).val
    omega

theorem gramRows_at (x0 : Vec F S4096x128 .i32) (p : ℕ) (hp : p < 128) (a : Fin 64) (b : Fin 128) (y : S8192x128.Idx)
    (h0 : (y 0).val = 64 * p + a.val) (h1 : (y 1).val = b.val) : gramRows x0 y = gramOf (pairRows x0 p hp) (ix2 a b) := by
  have e1 : (y 0).val / 64 = p := by have := a.isLt; omega
  have e2 : (y 0).val % 64 = a.val := by have := a.isLt; omega
  unfold gramRows
  subst e1
  refine congrArg _ (funext fun d => Fin.ext ?_)
  match d with
  | ⟨0, _⟩ => exact e2
  | ⟨1, _⟩ => exact h1

/-- The Gram rows the loop leaves. -/
theorem gram_canon (c : Dev nD) (i : grid0.Coords) (arg1 : Memref sig .tc .vmem S4096x128 .i32) (harg1 : arg1.IsWhole) (arg2 : Memref sig .tc .vmem S128x128 .i32) (harg2 : arg2.IsWhole) (arg3 : Memref sig .tc .vmem S1x256 .i32) (harg3 : arg3.IsWhole) (arg4 : Memref sig .tc .vmem S60x60x256 .f32) (harg4 : arg4.IsWhole) (arg5 : Memref sig .tc .vmem S8192x128 .f32) (harg5 : arg5.IsWhole) (arg6 : Memref sig .tc .vmem S2x60x64x128 .f32) (harg6 : arg6.IsWhole) (x0 : Vec F S4096x128 .i32) :
    View.canon (gramPieces c i arg1 harg1 arg2 harg2 arg3 harg3 arg4 harg4 arg5 harg5 arg6 harg6 x0) = gramRows x0 := by
  funext y
  have hy : (y 0).val < 8192 := (y 0).isLt
  have hlt : (y 0).val / 64 < k0_t1_loop.trips := by rw [trips_eq]; omega
  unfold gramPieces
  refine View.canon_apply_of_pieces (gramRows x0) _ (fun pc hpc x => ?_) y
    ⟨gramPiece arg1 (harg1.unread x0) ⟨(y 0).val / 64, hlt⟩, mem_pb c i arg1 harg1 arg2 harg2 arg3 harg3 arg4 harg4 arg5 harg5 arg6 harg6 _ _ _ (Nat.le_refl _) hlt, ?_⟩
  · obtain ⟨k, rfl⟩ := pb_mem c i arg1 harg1 arg2 harg2 arg3 harg3 arg4 harg4 arg5 harg5 arg6 harg6 _ _ (Nat.le_refl _) pc hpc
    obtain ⟨a, b, rfl⟩ : ∃ (a : Fin 64) (b : Fin 128), x = ix2 a b := ⟨x 0, x 1, by
      funext d
      match d with
      | ⟨0, _⟩ => rfl
      | ⟨1, _⟩ => rfl⟩
    show gramOf _ (ix2 a b) = _
    rw [gram_load]
    refine (gramRows_at x0 k.val _ a b _ ?_ ?_).symm
    · show k0_off2 k 0 + 1 * a.val = 64 * k.val + a.val
      rw [k0_off2_eq k]; show 64 * k.val + 1 * a.val = _; omega
    · show k0_off2 k 1 + 1 * b.val = b.val
      rw [k0_off2_eq k]; show 0 + 1 * b.val = _; omega
  · unfold gramPiece
    rw [Rect.mem_set_unit]
    intro d
    match d with
    | ⟨0, _⟩ =>
      show k0_off2 _ 0 ≤ (y 0).val ∧ (y 0).val < k0_off2 _ 0 + 64
      rw [k0_off2_eq]; show 64 * ((y 0).val / 64) ≤ (y 0).val ∧ (y 0).val < 64 * ((y 0).val / 64) + 64; omega
    | ⟨1, _⟩ =>
      have : (y 1).val < 128 := (y 1).isLt
      show k0_off2 _ 1 ≤ (y 1).val ∧ (y 1).val < k0_off2 _ 1 + 128
      rw [k0_off2_eq]; show 0 ≤ (y 1).val ∧ (y 1).val < 0 + 128; omega

end Cert.KernelIdeal.Dist

end
-- ==== Proof.IdealFrame.lean ====
/-
  The run of `KernelIdeal`: every execution ends, the three argument arrays end as they were, every semaphore counter ends
  at zero, and the result array is what the 188 grid points wrote back, point `t` the masked distances of its block
  (`outAt`).  The count window's and the output window's last blocks overhang the 48000 batches by half: the lanes past the
  end are not written back, and no other lane depends on them (`out_fill`).
-/
module

public import proofs.«01_k».proof.Proof.Gram
public import Idealize.ShloMosaic.Lib.Claim

@[expose] public section

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem coords_val (t : Fin cfg0.N) : (grid0.coords t 0).val = t.val := by
  have h : t.val < 188 := t.isLt
  rw [Pipeline.Grid.coords_val (G := grid0) t 0 (S := 1) (B := 188) (by decide) (by decide)]
  omega

theorem t_lt (t : Fin cfg0.N) : t.val < 188 := t.isLt

theorem toNat_coords (t : Fin cfg0.N) : (BitVec.ofNat 32 (grid0.coords t 0).val).toNat = t.val := by
  have := t_lt t
  rw [coords_val, BitVec.toNat_ofNat]; omega

theorem trans0 (t : Fin cfg0.N) : cc0_transform_0 (grid0.coords t) 0 = t.val := toNat_coords t
theorem trans1 (t : Fin cfg0.N) : cc0_transform_1 (grid0.coords t) 0 = t.val := toNat_coords t
theorem trans2 (t : Fin cfg0.N) : cc0_transform_2 (grid0.coords t) 1 = t.val := toNat_coords t
theorem trans3 (t : Fin cfg0.N) : cc0_transform_3 (grid0.coords t) 2 = t.val := toNat_coords t

/-- The part of a block of 256 lanes that lies within the 48000. -/
theorem extent_iff (t l : ℕ) (ht : t < 188) (hl : l < 256) :
    l < (Pipeline.Clip.of t 256 48000).extent 256 ↔ 256 * t + l < 48000 := by
  unfold Pipeline.Clip.of
  split
  · constructor
    · intro; omega
    · intro; exact hl
  · constructor
    · intro h; have h' : l < 48000 - t * 256 := h; omega
    · intro h; show l < 48000 - t * 256; omega

theorem moved2 (t : Fin cfg0.N) (l : Fin 256) (h : 256 * t.val + l.val < 48000) :
    win0_2.moved (grid0.coords t) (ix2 (0 : Fin 1) l) = true := by
  rw [Pipeline.Window.moved_iff]
  intro a
  match a with
  | ⟨0, _⟩ => show 0 < 1; omega
  | ⟨1, _⟩ =>
    show l.val < (Pipeline.Clip.of (cc0_transform_2 (grid0.coords t) 1) 256 48000).extent 256
    rw [trans2]; exact (extent_iff _ _ (t_lt t) l.isLt).2 h

theorem moved3 (t : Fin cfg0.N) (y : (win0_3.xblock (grid0.coords t)).Idx) : 256 * t.val + (y 2).val < 48000 := by
  have h : (y 2).val < (Pipeline.Clip.of (cc0_transform_3 (grid0.coords t) 2) 256 48000).extent 256 := (y 2).isLt
  rw [trans3] at h
  exact (extent_iff _ _ (t_lt t) (Nat.lt_of_lt_of_le (y 2).isLt (win0_3.xsize_le (grid0.coords t) 2))).1 h

/-- The counts' block at point `t`, filled up past the array's end with `d`. -/
abbrev cntAt (c : Dev nD) (t : Fin cfg0.N) (d : Vec F S1x256 .i32) : Vec F S1x256 .i32 :=
  win0_2.fill (grid0.coords t) d (iblk m c 2 t)

/-- A lane of the counts' block within the array is the count of that batch. -/
theorem cntAt_apply (c : Dev nD) (t : Fin cfg0.N) (d : Vec F S1x256 .i32) (l : Fin 256) (h : 256 * t.val + l.val < 48000) :
    cntAt m c t d (ix2 (0 : Fin 1) l) = (m ((c.tc : Thread nD τ).loc main_arg2) : S1x48000.Idx → BitVec 32) (ix2 (0 : Fin 1) (⟨256 * t.val + l.val, h⟩ : Fin 48000)) := by
  unfold cntAt Pipeline.Window.fill
  rw [dif_pos (moved2 t l h)]
  unfold iblk
  rw [View.read_apply]
  refine congrArg (m ((c.tc : Thread nD τ).loc main_arg2) : S1x48000.Idx → BitVec 32) (funext fun a => Fin.ext ?_)
  match a with
  | ⟨0, _⟩ => exact (Pipeline.Window.rect_emb_val win0_2 t _ 0).trans (by show 0 * 1 + 0 = 0; omega)
  | ⟨1, _⟩ =>
    refine (Pipeline.Window.rect_emb_val win0_2 t _ 1).trans ?_
    show cc0_transform_2 (grid0.coords t) 1 * 256 + l.val = 256 * t.val + l.val
    rw [trans2]; omega

/-- The rows' block at point `t`. -/
theorem rows_apply (c : Dev nD) (t : Fin cfg0.N) (a : Fin 4096) (b : Fin 128) :
    (iblk m c 0 t : Vec F S4096x128 .i32) (ix2 a b) = (m ((c.tc : Thread nD τ).loc main_arg0) : S770048x128.Idx → BitVec 32) (ix2 (⟨4096 * t.val + a.val, by have := t_lt t; omega⟩ : Fin 770048) b) := by
  unfold iblk
  rw [View.read_apply]
  refine congrArg (m ((c.tc : Thread nD τ).loc main_arg0) : S770048x128.Idx → BitVec 32) (funext fun d => Fin.ext ?_)
  match d with
  | ⟨0, _⟩ =>
    refine (Pipeline.Window.rect_emb_val win0_0 t _ 0).trans ?_
    show cc0_transform_0 (grid0.coords t) 0 * 4096 + a.val = 4096 * t.val + a.val
    rw [trans0]; omega
  | ⟨1, _⟩ => exact (Pipeline.Window.rect_emb_val win0_0 t _ 1).trans (by show 0 * 128 + b.val = b.val; omega)

/-- The scales' block at point `t`. -/
theorem scales_apply (c : Dev nD) (t : Fin cfg0.N) (a : Fin 128) (b : Fin 128) :
    (iblk m c 1 t : Vec F S128x128 .i32) (ix2 a b) = (m ((c.tc : Thread nD τ).loc main_arg1) : S24064x128.Idx → BitVec 32) (ix2 (⟨128 * t.val + a.val, by have := t_lt t; omega⟩ : Fin 24064) b) := by
  unfold iblk
  rw [View.read_apply]
  refine congrArg (m ((c.tc : Thread nD τ).loc main_arg1) : S24064x128.Idx → BitVec 32) (funext fun d => Fin.ext ?_)
  match d with
  | ⟨0, _⟩ =>
    refine (Pipeline.Window.rect_emb_val win0_1 t _ 0).trans ?_
    show cc0_transform_1 (grid0.coords t) 0 * 128 + a.val = 128 * t.val + a.val
    rw [trans1]; omega
  | ⟨1, _⟩ => exact (Pipeline.Window.rect_emb_val win0_1 t _ 1).trans (by show 0 * 128 + b.val = b.val; omega)

/-- The output block of point `t`. -/
def outAt (c : Dev nD) (t : Fin cfg0.N) : Vec F S60x60x256 .f32 :=
  blockFn (gramRows (iblk m c 0 t)) (iblk m c 1 t) (cntAt m c t fun _ => Classical.arbitrary _)

/-- The lanes of an output block within the array do not depend on what the counts' block is filled up with. -/
theorem out_fill (c : Dev nD) (t : Fin cfg0.N) (d : Vec F S1x256 .i32) :
    win0_3.fill (grid0.coords t) (blockFn (gramRows (iblk m c 0 t)) (iblk m c 1 t) (cntAt m c t d)) (win0_3.cut (grid0.coords t) (outAt m c t))
      = blockFn (gramRows (iblk m c 0 t)) (iblk m c 1 t) (cntAt m c t d) := by
  rw [show win0_3.cut (grid0.coords t) (outAt m c t) = win0_3.cut (grid0.coords t) (blockFn (gramRows (iblk m c 0 t)) (iblk m c 1 t) (cntAt m c t d)) from ?_,
    Pipeline.Window.fill_cut]
  funext y
  unfold outAt
  show blockFn _ _ _ (win0_3.xinj (grid0.coords t) y) = blockFn _ _ _ (win0_3.xinj (grid0.coords t) y)
  unfold blockFn
  have e := (cntAt_apply m c t (fun _ => Classical.arbitrary _) ⟨(y 2).val, Nat.lt_of_lt_of_le (y 2).isLt (win0_3.xsize_le (grid0.coords t) 2)⟩ (moved3 t y)).trans
    (cntAt_apply m c t d ⟨(y 2).val, Nat.lt_of_lt_of_le (y 2).isLt (win0_3.xsize_le (grid0.coords t) 2)⟩ (moved3 t y)).symm
  exact congrArg (fun q => entry (gramRows (iblk m c 0 t)) (iblk m c 1 t) q _ _ _ _ _ _ _ _) e

/-- The proof data of the pipeline on core `c`: the arrays as launched; after the body at point `t` each input's
    buffer at its block (the counts' filled up past the array's end with any words) and the output's at the distances
    of that block; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => Classical.arbitrary _) (iblk m c 2 t)
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = win0_2.fill (grid0.coords t) (fun _ => Classical.arbitrary _) (iblk m c 2 t) := by
  dsimp only [dats]
theorem after_3 (c : Dev nD) (t : Fin cfg0.N) : (dats m 0 c).after 3 t = outAt m c t := by dsimp only [dats]

/-- What the body finds in the inputs' buffers: their blocks, the counts' at any words past the array's end. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) :
    (dats m 0 c).before 2 t d = win0_2.fill (grid0.coords t) d (iblk m c 2 t) := by
  unfold Dat.before; rw [if_pos (fetch0_2 t)]; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ (∃ d, owns (c : Thread nD τ) (ms2 t) fullShare (win0_2.fill (grid0.coords t) d (win0_2.cut (grid0.coords t) ((dats m 0 c).after 2 t))))
    ∗ (∃ d, owns (c : Thread nD τ) (ms3 t) fullShare (win0_3.fill (grid0.coords t) d (win0_3.cut (grid0.coords t) ((dats m 0 c).after 3 t)))))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, Window.cut_fill]
  rw [show (dats m 0 c).Φ t.castSucc = Pipeline.ΦA spec0 c from rfl, PhiA_eq]
  iintro ⟨⟨⟨HS0, HS1⟩, Hg⟩, Ho, ⟨%d0, H0⟩, ⟨%d1, H1⟩, ⟨%d2, H2⟩, ⟨%d3, H3⟩⟩
  iapply ((bodyRun c (grid0.coords t) _ _ _ _ _ _ _ _ _ _ _ _ (iblk m c 0 t) (iblk m c 1 t) (win0_2.fill (grid0.coords t) d2 (iblk m c 2 t))).2 Set.univ _)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexists d2; iexact H2
  icases H3 with ⟨%f3, H3⟩
  iexists (blockFn (gramRows (iblk m c 0 t)) (iblk m c 1 t) (win0_2.fill (grid0.coords t) d2 (iblk m c 2 t)))
  unfold owns
  iexists _; isplitr; swap; · iexact H3
  ipureintro
  exact (View.read_writes_eq_canon _ _ _ (bodyRun_cover c (grid0.coords t) _ _ _ _ _ _ _ _ _ _ _ _ _ _ _)).trans ((outBlock_eq c (grid0.coords t) _ _ _ _ _ _ _ _ _ _ _ _ _ _ _).trans (by rw [gram_canon, out_fill]))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) :
    BodyObligationLoose (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the inputs' arrays as the library computes them from the proof data, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The run: the result array as the pipeline's flushed blocks make it, the arguments as they were, every counter at zero. -/
theorem run : θ_run defs (onTc (τ := τ) (main (F := F))) ⟨m, fun _ => 0, ρ⟩ (fun r => (∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => by
    refine ⟨fun c => ⟨(h.1 c).1 3, ?_, ?_, ?_⟩, h.2⟩
    · exact ((h.1 c).1 0).trans (((dats m 0 c).arrAt_in 0 rfl cfg0.N).trans (A_eq m c 0))
    · exact ((h.1 c).1 1).trans (((dats m 0 c).arrAt_in 1 rfl cfg0.N).trans (A_eq m c 1))
    · exact ((h.1 c).1 2).trans (((dats m 0 c).arrAt_in 2 rfl cfg0.N).trans (A_eq m c 2))) (run_main m ρ)

end Cert.KernelIdeal.Dist

end
-- ==== Proof.Bytes.lean ====
/-
  The byte shuffle of the kernel. From the 32 word rows of a pair it makes words whose byte `k` at lane `32 q + d` is
  byte `q` of the word at lane `32 k + d` (`words_byte`); read at eight bits, row `R` of the result is point `R` of the
  pair, with byte `q` of its word `d` at lane `32 q + d` (`codes_apply`).
-/
module

public import proofs.«01_k».proof.Proof.Gram
public import Idealize.ShloMosaic.Lib.BitcastPair
public import Idealize.ShloMosaic.Lib.KernelVsHost
public import Idealize.ShloMosaic.Lib.WordCmp

@[expose] public section

noncomputable section

namespace Cert.KernelIdeal.Dist

open Cert.KernelIdeal Cert.KernelIdeal.Gen
open Idealize.ShloMosaic Idealize.ShloMosaic.TcCoe Idealize.ShloMosaic.Tactic
open Idealize.SL.Sem
open Idealize.ShloMosaic.ValueIdx

variable {F : FTy → Type} [FloatOps F]

/-! ## The masks, lane by lane -/

/-- The remainder by four of a word, made non-negative as the kernel makes it. -/
def modFour (x : BitVec 32) : BitVec 32 :=
  let n : BitVec 32 := Scalar.select (Scalar.cmpi .eq 4#32 0#32) 1#32 4#32
  let r : BitVec 32 := IntOp.remsi .vector x n
  Scalar.select (IntOp.andi (IntOp.xori (IntOp.cmpi .slt r 0#32) (Scalar.cmpi .slt n 0#32)) (IntOp.cmpi .ne r 0#32)) (IntOp.addi r n) r

/-- The mask of the byte numbered by a word's remainder by four. -/
def maskAt (x : BitVec 32) : BitVec 32 := IntOp.shli .vector 255#32 (IntOp.muli 8#32 (modFour x))

/-- The group of a lane, computed as the kernel does: the quotient by 32, rounded down. -/
def groupOf (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 32#32 0#32)) (Scalar.extui (Scalar.cmpi .slt 32#32 0#32))))
      (IntOp.cmpi .ne (IntOp.remsi .vector x 32#32) 0#32))
    (IntOp.subi (IntOp.divsi .vector x 32#32) 1#32) (IntOp.divsi .vector x 32#32)

theorem lane_apply (r : Fin 32) (c : Fin 128) : iota .tc S32x128 32 [1] iota_S32x128_d1_w32 (ix2 r c) = BitVec.ofNat 32 c.val :=
  iota_single_apply _ _ _ _ _ _

theorem group_apply (r : Fin 32) (c : Fin 128) : k0_pay2 (ix2 r c) = groupOf (BitVec.ofNat 32 c.val) := by
  rw [← lane_apply r c]; rfl

/-- The word of a pair at row `r`, `n` lanes after lane `c`, around the end of the row. -/
def wordAt (w : Vec F S32x128 .i32) (r : Fin 32) (c n : ℕ) : BitVec 32 := w (ix2 r (⟨(c + n) % 128, Nat.mod_lt _ (by omega)⟩ : Fin 128))

theorem rotate_apply (w : Vec F S32x128 .i32) (n : ℕ) (s : BitVec 32) (hs : s.toNat = 128 - n) (h0 : 0 < n) (hn : n < 128) (r : Fin 32) (c : Fin 128) :
    (dynamicRotate 1 s none w rotates_S32x128_d1 : IVec S32x128 32) (ix2 r c) = wordAt w r c.val n := by
  refine dynamicRotate_apply (s := S32x128) (1 : Fin 2) s w rotates_S32x128_d1 (ix2 r c) (ix2 r (⟨(c.val + n) % 128, Nat.mod_lt _ (by omega)⟩ : Fin 128)) fun d => ?_
  match d with
  | ⟨0, _⟩ => rfl
  | ⟨1, _⟩ =>
    show (c.val + n) % 128 = (c.val + 128 - s.toNat % 128) % 128
    rw [hs]; congr 1; omega

/-- The shuffled words, at an index: each of four words of the row, turned by whole bytes and masked to one byte. -/
def mixed (q a b c d : BitVec 32) : BitVec 32 :=
  IntOp.ori
    (IntOp.ori
      (IntOp.ori (IntOp.andi a (maskAt (IntOp.addi q 0#32)))
        (IntOp.andi (IntOp.ori (IntOp.shli .vector b 8#32) (IntOp.shrui .vector b 24#32)) (maskAt (IntOp.addi q 1#32))))
      (IntOp.andi (IntOp.ori (IntOp.shli .vector c 16#32) (IntOp.shrui .vector c 16#32)) (maskAt (IntOp.addi q 2#32))))
    (IntOp.andi (IntOp.ori (IntOp.shli .vector d 24#32) (IntOp.shrui .vector d 8#32)) (maskAt (IntOp.addi q 3#32)))

/-- The shuffled words of a pair. -/
def words (w : Vec F S32x128 .i32) : IVec S32x128 32 :=
  let v3524 : BitVec 32 := Scalar.select (Scalar.cmpi .eq 4#32 0#32) 1#32 4#32
  ori (gathered w) (andi (k0_pay13 w) (shli k0_pay14 (muli (broadcast S32x128 8#32)
    (select (andi (xori (cmpi .slt (k0_pay15 k0_pay2) k0_pay17)
        (broadcastTo S32x128 (broadcast S32x128 (Scalar.cmpi .slt v3524 0#32)) broadcasts_S32x128_S32x128)) (k0_pay16 k0_pay2))
      (addi (k0_pay15 k0_pay2) (broadcast S32x128 v3524)) (k0_pay15 k0_pay2)))))

theorem words_mixed (w : Vec F S32x128 .i32) (r : Fin 32) (c : Fin 128) :
    words w (ix2 r c) = mixed (groupOf (BitVec.ofNat 32 c.val)) (w (ix2 r c)) (wordAt w r c.val 32) (wordAt w r c.val 64) (wordAt w r c.val 96) := by
  rw [← group_apply r c, ← rotate_apply w 32 96#32 rfl (by omega) (by omega), ← rotate_apply w 64 64#32 rfl (by omega) (by omega),
    ← rotate_apply w 96 32#32 rfl (by omega) (by omega)]
  rfl

theorem group_val : ∀ c : Fin 128, groupOf (BitVec.ofNat 32 c.val) = BitVec.ofNat 32 (c.val / 32) := by decide +kernel

theorem mask_val : ∀ q d : Fin 4, maskAt (IntOp.addi (BitVec.ofNat 32 q.val) (BitVec.ofNat 32 d.val))
    = 255#32 <<< (8 * ((q.val + d.val) % 4)) := by decide +kernel

/-! ## The bytes of the shuffled words -/

/-- A turned word's mask of one byte. -/
theorem mixed_eq (q : Fin 4) (a b c d : BitVec 32) :
    mixed (BitVec.ofNat 32 q.val) a b c d
      = (((a &&& 255#32 <<< (8 * ((q.val + 0) % 4))) ||| ((b <<< 8 ||| b >>> 24) &&& 255#32 <<< (8 * ((q.val + 1) % 4))))
          ||| ((c <<< 16 ||| c >>> 16) &&& 255#32 <<< (8 * ((q.val + 2) % 4))))
          ||| ((d <<< 24 ||| d >>> 8) &&& 255#32 <<< (8 * ((q.val + 3) % 4))) := by
  have m0 := mask_val q 0
  have m1 := mask_val q 1
  have m2 := mask_val q 2
  have m3 := mask_val q 3
  unfold mixed
  rw [show (0#32 : BitVec 32) = BitVec.ofNat 32 (0 : Fin 4).val from rfl, show (1#32 : BitVec 32) = BitVec.ofNat 32 (1 : Fin 4).val from rfl,
    show (2#32 : BitVec 32) = BitVec.ofNat 32 (2 : Fin 4).val from rfl, show (3#32 : BitVec 32) = BitVec.ofNat 32 (3 : Fin 4).val from rfl,
    m0, m1, m2, m3]
  rfl

/-- A bit of a byte mask. -/
theorem mask_bit (p i : ℕ) (hp : p < 4) : (255#32 <<< (8 * p)).getLsbD i = decide (i / 8 = p) := by
  rw [BitVec.getLsbD_shiftLeft, show (255#32 : BitVec 32) = BitVec.ofNat 32 (2 ^ 8 - 1) from rfl, BitVec.getLsbD_ofNat, Nat.testBit_two_pow_sub_one]
  by_cases h : i / 8 = p
  · have h1 : i < 32 := by omega
    have h2 : ¬ i < 8 * p := by omega
    have h3 : i - 8 * p < 32 := by omega
    have h4 : i - 8 * p < 8 := by omega
    simp [h, h1, h2, h3, h4]
  · have h5 : ¬ (¬ i < 8 * p ∧ i - 8 * p < 8) := by omega
    by_cases h6 : i < 8 * p
    · simp [h, h6]
    · have h7 : ¬ i - 8 * p < 8 := fun e => h5 ⟨h6, e⟩
      simp [h, h7]

/-- A bit of a word turned left by `n` bits. -/
theorem turn_bit (x : BitVec 32) (n i : ℕ) (hi : i < 32) (hn : n ≤ 32) : (x <<< n ||| x >>> (32 - n)).getLsbD i = x.getLsbD ((i + (32 - n)) % 32) := by
  rw [BitVec.getLsbD_or, BitVec.getLsbD_shiftLeft, BitVec.getLsbD_ushiftRight]
  by_cases h : i < n
  · rw [Nat.mod_eq_of_lt (by omega)]
    simp [h, Nat.add_comm]
  · have e : (i + (32 - n)) % 32 = i - n := by omega
    have e2 : x.getLsbD (32 - n + i) = false := BitVec.getLsbD_of_ge x _ (by omega)
    rw [e, e2]
    simp [h, hi]

/-- Byte `k` of the shuffled word of group `q` is byte `q` of the word `k - q` groups on. -/
theorem mixed_byte (q k : Fin 4) (f : ℕ → BitVec 32) :
    (mixed (BitVec.ofNat 32 q.val) (f 0) (f 32) (f 64) (f 96)).extractLsb' (8 * k.val) 8
      = (f (32 * ((k.val + 4 - q.val) % 4))).extractLsb' (8 * q.val) 8 := by
  apply BitVec.eq_of_getLsbD_eq
  intro i hi
  have hk := k.isLt
  have hq := q.isLt
  rw [BitVec.getLsbD_extractLsb', BitVec.getLsbD_extractLsb', mixed_eq]
  simp only [BitVec.getLsbD_or (x := _ ||| _), BitVec.getLsbD_and, mask_bit _ _ (Nat.mod_lt _ (by omega : 0 < 4))]
  have t1 := turn_bit (f 32) 8 (8 * k.val + i) (by omega) (by omega)
  have t2 := turn_bit (f 64) 16 (8 * k.val + i) (by omega) (by omega)
  have t3 := turn_bit (f 96) 24 (8 * k.val + i) (by omega) (by omega)
  simp only [show 32 - 8 = 24 from rfl, show 32 - 16 = 16 from rfl, show 32 - 24 = 8 from rfl] at t1 t2 t3
  rw [BitVec.getLsbD_or, BitVec.getLsbD_and, BitVec.getLsbD_and, t1, t2, t3]
  simp only [mask_bit _ _ (Nat.mod_lt _ (by omega : 0 < 4))]
  have hd : (8 * k.val + i) / 8 = k.val := by omega
  rw [hd]
  have hc : (k.val + 4 - q.val) % 4 = 0 ∨ (k.val + 4 - q.val) % 4 = 1 ∨ (k.val + 4 - q.val) % 4 = 2 ∨ (k.val + 4 - q.val) % 4 = 3 := by omega
  have hi' : decide (i < 8) = true := decide_eq_true hi
  rcases hc with e | e | e | e
  all_goals
    rw [e]
    first
      | rw [decide_eq_true (show k.val = (q.val + 0) % 4 by omega), decide_eq_false (show ¬ k.val = (q.val + 1) % 4 by omega),
          decide_eq_false (show ¬ k.val = (q.val + 2) % 4 by omega), decide_eq_false (show ¬ k.val = (q.val + 3) % 4 by omega),
          show 8 * q.val + i = 8 * k.val + i by omega]
      | rw [decide_eq_false (show ¬ k.val = (q.val + 0) % 4 by omega), decide_eq_true (show k.val = (q.val + 1) % 4 by omega),
          decide_eq_false (show ¬ k.val = (q.val + 2) % 4 by omega), decide_eq_false (show ¬ k.val = (q.val + 3) % 4 by omega),
          show 8 * q.val + i = (8 * k.val + i + 24) % 32 by omega]
      | rw [decide_eq_false (show ¬ k.val = (q.val + 0) % 4 by omega), decide_eq_false (show ¬ k.val = (q.val + 1) % 4 by omega),
          decide_eq_true (show k.val = (q.val + 2) % 4 by omega), decide_eq_false (show ¬ k.val = (q.val + 3) % 4 by omega),
          show 8 * q.val + i = (8 * k.val + i + 16) % 32 by omega]
      | rw [decide_eq_false (show ¬ k.val = (q.val + 0) % 4 by omega), decide_eq_false (show ¬ k.val = (q.val + 1) % 4 by omega),
          decide_eq_false (show ¬ k.val = (q.val + 2) % 4 by omega), decide_eq_true (show k.val = (q.val + 3) % 4 by omega),
          show 8 * q.val + i = (8 * k.val + i + 8) % 32 by omega]
    simp

/-- The byte at lane `l` of the row of point `R` of a pair: byte `l / 32` of the point's word `l % 32`. -/
def code (w : Vec F S32x128 .i32) (R l : ℕ) (hR : R < 128) (hl : l < 128) : BitVec 8 :=
  (w (ix2 (⟨R / 4, by omega⟩ : Fin 32) (⟨32 * (R % 4) + l % 32, by omega⟩ : Fin 128)) : BitVec 32).extractLsb' (8 * (l / 32)) 8

/-- The bytes of the shuffled words: byte `k` at lane `l` of row `r` is that of point `4 r + k`. -/
theorem words_byte (w : Vec F S32x128 .i32) (r : Fin 32) (l : Fin 128) (k : Fin 4) :
    (words w (ix2 r l)).extractLsb' (8 * k.val) 8 = code w (4 * r.val + k.val) l.val (by omega) l.isLt := by
  rw [words_mixed, group_val]
  have h0 : w (ix2 r l) = wordAt w r l.val 0 := by
    unfold wordAt
    refine congrArg w (congrArg (ix2 r) (Fin.ext ?_))
    show l.val = (l.val + 0) % 128
    omega
  rw [h0]
  refine (mixed_byte (⟨l.val / 32, by omega⟩ : Fin 4) k (fun n => wordAt w r l.val n)).trans ?_
  unfold code wordAt
  refine congrArg (fun z => (w z : BitVec 32).extractLsb' (8 * (l.val / 32)) 8) (funext fun d => Fin.ext ?_)
  match d with
  | ⟨0, _⟩ => show r.val = (4 * r.val + k.val) / 4; omega
  | ⟨1, _⟩ => show (l.val + 32 * ((k.val + 4 - l.val / 32) % 4)) % 128 = 32 * ((4 * r.val + k.val) % 4) + l.val % 32; omega

/-- The shuffled words read at eight bits. -/
theorem codes_apply (w : Vec F S32x128 .i32) (R l : Fin 128) :
    (bitcast S128x128 8 (words w) bitcasts_S32x128_w32_S128x128_w8 : IVec S128x128 8) (ix2 R l) = code w R.val l.val R.isLt l.isLt := by
  have key := words_byte w (⟨R.val / 4, by omega⟩ : Fin 32) l (⟨R.val % 4, by omega⟩ : Fin 4)
  have hc : code w (4 * (R.val / 4) + R.val % 4) l.val (by omega) l.isLt = code w R.val l.val R.isLt l.isLt := by
    congr 1; omega
  refine Eq.trans ?_ (key.trans hc)
  apply BitVec.eq_of_getLsbD_eq
  intro i hi
  rw [bitcast_getLsbD (words w) bitcasts_S32x128_w32_S128x128_w8 (ix2 R l) i hi (by decide), BitVec.getLsbD_extractLsb', decide_eq_true hi, Bool.true_and]
  have hrow : S128x128.row (ix2 R l) = R.val := rfl
  have hb : (S128x128.row (ix2 R l) * 8 + i) % 32 = 8 * (R.val % 4) + i := by rw [hrow]; omega
  rw [hb]
  refine congrArg (fun z => (words w z).getLsbD (8 * (R.val % 4) + i)) (funext fun d => Fin.ext ?_)
  match d with
  | ⟨0, _⟩ =>
    refine (Shape.Bitcasts.srcIdx_row bitcasts_S32x128_w32_S128x128_w8 (ix2 R l) _ _ (0 : Fin 2) rfl).trans ?_
    show (S128x128.row (ix2 R l) * 8 + i) / 32 = R.val / 4
    rw [hrow]; omega
  | ⟨1, _⟩ => exact (Shape.Bitcasts.srcIdx_other bitcasts_S32x128_w32_S128x128_w8 (ix2 R l) _ _ (1 : Fin 2) (show ¬ 1 + 2 = 2 by omega)).trans rfl

end Cert.KernelIdeal.Dist

end
-- ==== Proof.GramValue.lean ====
/-
  The Gram block of a pair over the extended reals (`gramOf_apply`): the entry of slots `i` and `j` of a half is the sum
  over the 96 features of the products of their codes. The kernel's product runs over 256 columns, of which one half
  meets a block of zeros and of the other half the eight spare lanes of each group of 32 are masked to zero.
-/
module

public import proofs.«01_k».proof.Proof.Bytes
public import Idealize.ShloMosaic.Lib.MatmulPlain
public import Idealize.ShloMosaic.Lib.IdealHost

@[expose] public section

noncomputable section

namespace Cert.KernelIdeal.Dist

open Cert.KernelIdeal Cert.KernelIdeal.Gen
open Idealize.ShloMosaic Idealize.ShloMosaic.TcCoe Idealize.ShloMosaic.Tactic
open Idealize.SL.Sem
open Idealize.ShloMosaic.ValueIdx

/-- A byte as a number. -/
def num (x : BitVec 8) : EReal := ((x.toInt : ℝ) : EReal)

/-- The codes of a pair as numbers. -/
def floats (w : Vec Ideal S32x128 .i32) : FVec Ideal S128x128 .bf16 :=
  sitofp .bf16 (bitcast S128x128 8 (words w) bitcasts_S32x128_w32_S128x128_w8)

theorem floats_apply (w : Vec Ideal S32x128 .i32) (R l : Fin 128) : floats w (ix2 R l) = num (code w R.val l.val R.isLt l.isLt) := by
  rw [← codes_apply]; rfl

/-- Which lanes hold codes, as the kernel computes it. -/
def kept : IVec S64x128 1 :=
  let v2 : BitVec 32 := Scalar.select (Scalar.cmpi .eq 32#32 0#32) 1#32 32#32
  let v4 : IVec S64x128 32 := remsi (iota .tc S64x128 32 [1] iota_S64x128_d1_w32) (broadcast S64x128 v2)
  cmpi .slt
    (select (andi (xori (cmpi .slt v4 (broadcast S64x128 0#32)) (broadcastTo S64x128 (broadcast S64x128 (Scalar.cmpi .slt v2 0#32)) broadcasts_S64x128_S64x128))
        (cmpi .ne v4 (broadcast S64x128 0#32)))
      (addi v4 (broadcast S64x128 v2)) v4)
    (broadcast S64x128 24#32)

/-- The same for one lane. -/
def keptAt (x : BitVec 32) : BitVec 1 :=
  let v2 : BitVec 32 := Scalar.select (Scalar.cmpi .eq 32#32 0#32) 1#32 32#32
  let v4 : BitVec 32 := IntOp.remsi .vector x v2
  IntOp.cmpi .slt
    (Scalar.select (IntOp.andi (IntOp.xori (IntOp.cmpi .slt v4 0#32) (Scalar.cmpi .slt v2 0#32)) (IntOp.cmpi .ne v4 0#32)) (IntOp.addi v4 v2) v4)
    24#32

theorem keptAt_val : ∀ l : Fin 128, keptAt (BitVec.ofNat 32 l.val) = BitVec.ofBool (decide (l.val % 32 < 24)) := by decide +kernel

theorem kept_apply (a : Fin 64) (l : Fin 128) : kept (ix2 a l) = BitVec.ofBool (decide (l.val % 32 < 24)) := by
  rw [← keptAt_val l]
  have e : iota .tc S64x128 32 [1] iota_S64x128_d1_w32 (ix2 a l) = BitVec.ofNat 32 l.val := iota_single_apply _ _ _ _ _ _
  rw [← e]; rfl

/-- A block of zeros. -/
def zeros : FVec Ideal S64x128 .bf16 := broadcast S64x128 (Scalar.ofBits .bf16 0x0000#16)

theorem zeros_apply (y : S64x128.Idx) : zeros y = 0 := by
  exact Ideal.ofBits_zero_bf16

/-- The rows of the first half of the slots. -/
def low (w : Vec Ideal S32x128 .i32) : FVec Ideal S64x128 .bf16 := extractStridedSlice S64x128 ![0, 0] (floats w) slices_S128x128_o0_0_S64x128

/-- The rows of the second half. -/
def high (w : Vec Ideal S32x128 .i32) : FVec Ideal S64x128 .bf16 := extractStridedSlice S64x128 ![64, 0] (floats w) slices_S128x128_o64_0_S64x128

theorem low_apply (w : Vec Ideal S32x128 .i32) (a : Fin 64) (l : Fin 128) : low w (ix2 a l) = num (code w a.val l.val (by omega) l.isLt) := by
  unfold low
  refine (extractStridedSlice_apply _ (floats w) _ _ (ix2 (⟨a.val, by omega⟩ : Fin 128) l) fun d => ?_).trans (floats_apply w (⟨a.val, by omega⟩ : Fin 128) l)
  match d with
  | ⟨0, _⟩ => show a.val = 0 + a.val; omega
  | ⟨1, _⟩ => show l.val = 0 + l.val; omega

theorem high_apply (w : Vec Ideal S32x128 .i32) (a : Fin 64) (l : Fin 128) : high w (ix2 a l) = num (code w (64 + a.val) l.val (by omega) l.isLt) := by
  unfold high
  refine (extractStridedSlice_apply _ (floats w) _ _ (ix2 (⟨64 + a.val, by omega⟩ : Fin 128) l) fun d => ?_).trans (floats_apply w (⟨64 + a.val, by omega⟩ : Fin 128) l)
  match d with
  | ⟨0, _⟩ => rfl
  | ⟨1, _⟩ => show l.val = 0 + l.val; omega

/-- Two blocks side by side, at an index. -/
def pair (x y : FVec Ideal S64x128 .bf16) : FVec Ideal S64x256 .bf16 :=
  concatenate S64x256 1 [⟨S64x128, x⟩, ⟨S64x128, y⟩] concatenates_S64x128_S64x128_S64x256_d1

theorem pair_left (x y : FVec Ideal S64x128 .bf16) (a : Fin 64) (l : Fin 128) : pair x y (ix2 a (⟨l.val, by omega⟩ : Fin 256)) = x (ix2 a l) :=
  concatenate_pair_apply_left 1 x y concatenates_S64x128_S64x128_S64x256_d1 _ rfl _ (fun b => by
    match b with
    | ⟨0, _⟩ => rfl
    | ⟨1, _⟩ => rfl)

theorem pair_right (x y : FVec Ideal S64x128 .bf16) (a : Fin 64) (l : Fin 128) : pair x y (ix2 a (⟨128 + l.val, by omega⟩ : Fin 256)) = y (ix2 a l) :=
  concatenate_pair_apply_right 1 x y concatenates_S64x128_S64x128_S64x256_d1 _ rfl rfl _
    (fun b hb => by
      match b with
      | ⟨0, _⟩ => rfl
      | ⟨1, _⟩ => exact absurd rfl hb)
    (show l.val + 128 = 128 + l.val by omega)

/-- The block-diagonal operand, from its two diagonal blocks. -/
def diagonal (x y : FVec Ideal S64x128 .bf16) : FVec Ideal S128x256 .bf16 :=
  concatenate S128x256 0 [⟨S64x256, pair x zeros⟩, ⟨S64x256, pair zeros y⟩] concatenates_S64x256_S64x256_S128x256_d0

theorem diagonal_top (x y : FVec Ideal S64x128 .bf16) (a : Fin 64) (k : Fin 256) :
    diagonal x y (ix2 (⟨a.val, by omega⟩ : Fin 128) k) = pair x zeros (ix2 a k) :=
  concatenate_pair_apply_left 0 (pair x zeros) (pair zeros y) concatenates_S64x256_S64x256_S128x256_d0 _ rfl _ (fun b => by
    match b with
    | ⟨0, _⟩ => rfl
    | ⟨1, _⟩ => rfl)

theorem diagonal_bottom (x y : FVec Ideal S64x128 .bf16) (a : Fin 64) (k : Fin 256) :
    diagonal x y (ix2 (⟨64 + a.val, by omega⟩ : Fin 128) k) = pair zeros y (ix2 a k) :=
  concatenate_pair_apply_right 0 (pair x zeros) (pair zeros y) concatenates_S64x256_S64x256_S128x256_d0 _ rfl rfl _
    (fun b hb => by
      match b with
      | ⟨0, _⟩ => exact absurd rfl hb
      | ⟨1, _⟩ => rfl)
    (show a.val + 64 = 64 + a.val by omega)

/-- The Gram block as one product. -/
theorem gramOf_eq (w : Vec Ideal S32x128 .i32) :
    gramOf w = shapeCast S64x128 (matmul dot_S64x256_S128x256_S64x128_1_1_0_0_n_n none (pair (low w) (high w))
      (diagonal (select kept (low w) zeros) (select kept (high w) zeros)) (constant S64x128 .f32 0x00000000#32)) shapeCasts_S64x128_S64x128 := rfl

/-- The product at an index, its columns split in two halves. -/
theorem gramOf_sum (w : Vec Ideal S32x128 .i32) (a : Fin 64) (b : Fin 128) :
    gramOf w (ix2 a b)
      = (∑ l : Fin 128, (low w) (ix2 a l) * diagonal (select kept (low w) zeros) (select kept (high w) zeros) (ix2 b (⟨l.val, by omega⟩ : Fin 256)))
        + ∑ l : Fin 128, (high w) (ix2 a l) * diagonal (select kept (low w) zeros) (select kept (high w) zeros) (ix2 b (⟨128 + l.val, by omega⟩ : Fin 256)) := by
  rw [gramOf_eq, shapeCast_self]
  refine (Ideal.matmul_transposedRhs_apply (M := 64) (K := 256) (N := 128) none (pair (low w) (high w))
    (diagonal (select kept (low w) zeros) (select kept (high w) zeros)) (constant S64x128 .f32 0x00000000#32) a b).trans ?_
  have hz : (constant S64x128 .f32 0x00000000#32 : FVec Ideal S64x128 .f32) (ix2 a b) = 0 := by
    exact Ideal.ofBits_zero_f32
  rw [hz, zero_add, Fin.sum_univ_add (a := 128) (b := 128)]
  refine congrArg₂ (· + ·) (Finset.sum_congr rfl fun l _ => ?_) (Finset.sum_congr rfl fun l _ => ?_)
  · rw [← pair_left (low w) (high w) a l]; rfl
  · rw [← pair_right (low w) (high w) a l]; rfl

/-- The lane of byte `q` of word `d`, and the number of the feature it holds. -/
theorem lane_feature (q d : ℕ) (hq : q < 4) (hd : d < 24) :
    (32 * q + d) % 32 = d ∧ (32 * q + d) / 32 = q ∧ (4 * d + q) % 4 = q ∧ (4 * d + q) / 4 = d := by omega

/-- A sum over the lanes that hold codes is a sum over the features. -/
theorem sum_kept (g : Fin 128 → EReal) :
    (∑ l : Fin 128, if l.val % 32 < 24 then g l else 0) = ∑ f : Fin 96, g (⟨32 * (f.val % 4) + f.val / 4, by omega⟩ : Fin 128) := by
  rw [← Finset.sum_filter]
  have back : ∀ l : Fin 128, l.val % 32 < 24 →
      32 * ((4 * (l.val % 32 % 24) + l.val / 32) % 4) + (4 * (l.val % 32 % 24) + l.val / 32) / 4 = l.val := by
    intro l hl
    have e := lane_feature (l.val / 32) (l.val % 32) (by omega) hl
    rw [Nat.mod_eq_of_lt hl, e.2.2.1, e.2.2.2]
    omega
  refine Finset.sum_bij' (fun l _ => (⟨4 * (l.val % 32 % 24) + l.val / 32, by omega⟩ : Fin 96))
    (fun f _ => (⟨32 * (f.val % 4) + f.val / 4, by omega⟩ : Fin 128)) ?_ ?_ ?_ ?_ ?_
  · intro l _; exact Finset.mem_univ _
  · intro f _
    rw [Finset.mem_filter]
    refine ⟨Finset.mem_univ _, ?_⟩
    have e := lane_feature (f.val % 4) (f.val / 4) (by omega) (by omega)
    show (32 * (f.val % 4) + f.val / 4) % 32 < 24
    rw [e.1]; omega
  · intro l hl
    exact Fin.ext (back l (Finset.mem_filter.1 hl).2)
  · intro f _
    apply Fin.ext
    have e := lane_feature (f.val % 4) (f.val / 4) (by omega) (by omega)
    show 4 * ((32 * (f.val % 4) + f.val / 4) % 32 % 24) + (32 * (f.val % 4) + f.val / 4) / 32 = f.val
    rw [e.1, e.2.1]; omega
  · intro l hl
    exact congrArg g (Fin.ext (back l (Finset.mem_filter.1 hl).2).symm)

/-- Feature `f` of point `R` of a pair, as a number. -/
def feat (w : Vec Ideal S32x128 .i32) (R : ℕ) (hR : R < 128) (f : Fin 96) : EReal :=
  num (code w R (32 * (f.val % 4) + f.val / 4) hR (by omega))

theorem masked_apply (x : FVec Ideal S64x128 .bf16) (a : Fin 64) (l : Fin 128) :
    select kept x zeros (ix2 a l) = if l.val % 32 < 24 then x (ix2 a l) else 0 := by
  rw [ValueIdx.select_apply, kept_apply, zeros_apply]
  by_cases h : l.val % 32 < 24
  · rw [decide_eq_true h, if_pos h]; rfl
  · rw [decide_eq_false h, if_neg h]; rfl

theorem mul_masked (x y : EReal) (p : Prop) [Decidable p] : x * (if p then y else 0) = if p then x * y else 0 := by
  by_cases h : p
  · rw [if_pos h, if_pos h]
  · rw [if_neg h, if_neg h, mul_zero]

/-- The Gram entries of the first half. -/
theorem gramOf_low (w : Vec Ideal S32x128 .i32) (a b : Fin 64) :
    gramOf w (ix2 a (⟨b.val, by omega⟩ : Fin 128)) = ∑ f : Fin 96, feat w a.val (by omega) f * feat w b.val (by omega) f := by
  rw [gramOf_sum]
  simp only [diagonal_top, pair_left, pair_right, zeros_apply, mul_zero, Finset.sum_const_zero, add_zero, masked_apply, mul_masked, low_apply]
  exact sum_kept fun l => num (code w a.val l.val (by omega) l.isLt) * num (code w b.val l.val (by omega) l.isLt)

/-- The Gram entries of the second half. -/
theorem gramOf_high (w : Vec Ideal S32x128 .i32) (a b : Fin 64) :
    gramOf w (ix2 a (⟨64 + b.val, by omega⟩ : Fin 128)) = ∑ f : Fin 96, feat w (64 + a.val) (by omega) f * feat w (64 + b.val) (by omega) f := by
  rw [gramOf_sum]
  simp only [diagonal_bottom, pair_left, pair_right, zeros_apply, mul_zero, Finset.sum_const_zero, zero_add, masked_apply, mul_masked, high_apply]
  exact sum_kept fun l => num (code w (64 + a.val) l.val (by omega) l.isLt) * num (code w (64 + b.val) l.val (by omega) l.isLt)

/-- The Gram entry of slots `i` and `j` of half `h`: the sum over the features of the products of their codes. -/
theorem gramOf_apply (w : Vec Ideal S32x128 .i32) (h i j : ℕ) (hh : h < 2) (hi : i < 64) (hj : j < 64) :
    gramOf w (ix2 (⟨i, hi⟩ : Fin 64) (⟨64 * h + j, by omega⟩ : Fin 128))
      = ∑ f : Fin 96, feat w (64 * h + i) (by omega) f * feat w (64 * h + j) (by omega) f := by
  have hc : h = 0 ∨ h = 1 := by omega
  rcases hc with rfl | rfl
  · have ej : (⟨64 * 0 + j, by omega⟩ : Fin 128) = ⟨j, by omega⟩ := Fin.ext (by show 64 * 0 + j = j; omega)
    rw [ej]
    refine (gramOf_low w ⟨i, hi⟩ ⟨j, hj⟩).trans ?_
    simp only [Nat.mul_zero, Nat.zero_add]
  · exact gramOf_high w ⟨i, hi⟩ ⟨j, hj⟩

end Cert.KernelIdeal.Dist

end
-- ==== Proof.RefValue.lean ====
/-
  The reference over the extended reals, entry by entry (`refOut_apply`): the masked squared distance of slots `t` and
  `j` of batch `b`, from the scales, and from the sums over the 96 features of the products of the codes.
-/
module

public import proofs.«01_k».proof.Proof.GramValue
public import proofs.«01_k».proof.Proof.Gen.ReferenceIdeal.Read
public import Idealize.ShloMosaic.Lib.BitcastConvert

@[expose] public section

noncomputable section

namespace Cert.ReferenceIdeal.Dist

open Cert.ReferenceIdeal Cert.ReferenceIdeal.Gen Cert.ReferenceIdeal.Read
open Idealize.ShloMosaic Idealize.ShloMosaic.TcCoe
open Idealize.SL.Sem
open Idealize.ShloMosaic.ValueIdx
open Cert.KernelIdeal.Dist (num distOf)

/-- Feature `f` of slot `s` of batch `b`: a byte of the rows of words. -/
def byteAt (x0 : S770048x128.Idx → BitVec 32) (b s f : ℕ) (hb : b < 48128) (hs : s < 64) (hf : f < 96) : BitVec 8 :=
  (x0 (ix2 (⟨(b / 256 * 128 + b % 128) * 32 + (64 * (b / 128 % 2) + s) / 4, by omega⟩ : Fin 770048)
    (⟨32 * ((64 * (b / 128 % 2) + s) % 4) + f / 4, by omega⟩ : Fin 128))).extractLsb' (8 * (f % 4)) 8

/-- The scale of slot `s` of batch `b`. -/
def scaleAt (x1 : S24064x128.Idx → BitVec 32) (b s : ℕ) (hb : b < 48128) (hs : s < 64) : Ideal .f32 :=
  FloatOps.ofBits .f32 (x1 (ix2 (⟨b / 256 * 128 + b % 128, by omega⟩ : Fin 24064) (⟨64 * (b / 128 % 2) + s, by omega⟩ : Fin 128)))

/-- The reference's codes, cut to the slots and features in use. -/
theorem codes_at (x0 : S770048x128.Idx → BitVec 32) (b : Fin 48000) (s : Fin 60) (f : Fin 96) (i : S48000x60x96.Idx)
    (h0 : (i 0).val = b.val) (h1 : (i 1).val = s.val) (h2 : (i 2).val = f.val) :
    val_main_v5 (F := Ideal) x0 i = byteAt x0 b.val s.val f.val (by omega) (by omega) f.isLt := by
  rw [val_main_v5_apply, val_main_v4_apply, val_main_v3_apply, val_main_v2_apply]
  unfold val_main_v0 byteAt
  rw [Host.bitcastConvertNarrow_apply]
  have hb := b.isLt
  have hs := s.isLt
  have hf := f.isLt
  -- the place among all bytes
  have e4 : ((b.val * 64 + s.val) * 128 + f.val) / 2097152 = b.val / 256 := by omega
  have e3 : ((b.val * 64 + s.val) * 128 + f.val) / 1048576 % 2 = b.val / 128 % 2 := by omega
  have e2 : ((b.val * 64 + s.val) * 128 + f.val) / 8192 % 128 = b.val % 128 := by omega
  have e1 : ((b.val * 64 + s.val) * 128 + f.val) / 128 % 64 = s.val := by omega
  have e0 : ((b.val * 64 + s.val) * 128 + f.val) % 128 = f.val := by omega
  have flat : (((((idx_main_v3 (idx_main_v4 (idx_main_v5 i))) 0).val * 128 + ((idx_main_v3 (idx_main_v4 (idx_main_v5 i))) 1).val) * 2
        + ((idx_main_v3 (idx_main_v4 (idx_main_v5 i))) 2).val) * 64 + ((idx_main_v3 (idx_main_v4 (idx_main_v5 i))) 3).val) * 128
        + ((idx_main_v3 (idx_main_v4 (idx_main_v5 i))) 4).val
      = (((b.val / 256 * 128 + b.val % 128) * 2 + b.val / 128 % 2) * 64 + s.val) * 128 + f.val := by
    show ((((((i 0).val * 64 + (i 1).val) * 128 + (i 2).val) / 2097152 * 128 + (((i 0).val * 64 + (i 1).val) * 128 + (i 2).val) / 8192 % 128) * 2
        + (((i 0).val * 64 + (i 1).val) * 128 + (i 2).val) / 1048576 % 2) * 64 + (((i 0).val * 64 + (i 1).val) * 128 + (i 2).val) / 128 % 64) * 128
        + (((i 0).val * 64 + (i 1).val) * 128 + (i 2).val) % 128 = _
    rw [h0, h1, h2, e0, e1, e2, e3, e4]
  have hbyte : ((idx_main_v2 (idx_main_v3 (idx_main_v4 (idx_main_v5 i)))) (splits_S770048x128_w32_S770048x128x4_w8.axis)).val * 8 = 8 * (f.val % 4) := by
    show ((((((idx_main_v3 (idx_main_v4 (idx_main_v5 i))) 0).val * 128 + ((idx_main_v3 (idx_main_v4 (idx_main_v5 i))) 1).val) * 2
        + ((idx_main_v3 (idx_main_v4 (idx_main_v5 i))) 2).val) * 64 + ((idx_main_v3 (idx_main_v4 (idx_main_v5 i))) 3).val) * 128
        + ((idx_main_v3 (idx_main_v4 (idx_main_v5 i))) 4).val) % 4 * 8 = _
    rw [flat]; omega
  have hword : splits_S770048x128_w32_S770048x128x4_w8.drop (idx_main_v2 (idx_main_v3 (idx_main_v4 (idx_main_v5 i))))
      = ix2 (⟨(b.val / 256 * 128 + b.val % 128) * 32 + (64 * (b.val / 128 % 2) + s.val) / 4, by omega⟩ : Fin 770048)
        (⟨32 * ((64 * (b.val / 128 % 2) + s.val) % 4) + f.val / 4, by omega⟩ : Fin 128) := by
    funext d
    apply Fin.ext
    match d with
    | ⟨0, _⟩ =>
      show ((((((idx_main_v3 (idx_main_v4 (idx_main_v5 i))) 0).val * 128 + ((idx_main_v3 (idx_main_v4 (idx_main_v5 i))) 1).val) * 2
        + ((idx_main_v3 (idx_main_v4 (idx_main_v5 i))) 2).val) * 64 + ((idx_main_v3 (idx_main_v4 (idx_main_v5 i))) 3).val) * 128
        + ((idx_main_v3 (idx_main_v4 (idx_main_v5 i))) 4).val) / 512 = (b.val / 256 * 128 + b.val % 128) * 32 + (64 * (b.val / 128 % 2) + s.val) / 4
      rw [flat]; omega
    | ⟨1, _⟩ =>
      show ((((((idx_main_v3 (idx_main_v4 (idx_main_v5 i))) 0).val * 128 + ((idx_main_v3 (idx_main_v4 (idx_main_v5 i))) 1).val) * 2
        + ((idx_main_v3 (idx_main_v4 (idx_main_v5 i))) 2).val) * 64 + ((idx_main_v3 (idx_main_v4 (idx_main_v5 i))) 3).val) * 128
        + ((idx_main_v3 (idx_main_v4 (idx_main_v5 i))) 4).val) / 4 % 128 = 32 * ((64 * (b.val / 128 % 2) + s.val) % 4) + f.val / 4
      rw [flat]; omega
  rw [hbyte, hword]

/-- The reference's scales. -/
theorem scales_at (x1 : S24064x128.Idx → BitVec 32) (b : Fin 48000) (s : Fin 60) (i : S48000x60.Idx) (h0 : (i 0).val = b.val) (h1 : (i 1).val = s.val) :
    val_main_v9 (F := Ideal) x1 i = scaleAt x1 b.val s.val (by omega) (by omega) := by
  rw [val_main_v9_apply, val_main_v8_apply, val_main_v7_apply, val_main_v6_apply, val_main_v1_apply]
  unfold scaleAt
  have hb := b.isLt
  have hs := s.isLt
  have e3 : (b.val * 64 + s.val) / 16384 = b.val / 256 := by omega
  have e2 : (b.val * 64 + s.val) / 8192 % 2 = b.val / 128 % 2 := by omega
  have e1 : (b.val * 64 + s.val) / 64 % 128 = b.val % 128 := by omega
  have e0 : (b.val * 64 + s.val) % 64 = s.val := by omega
  refine congrArg (fun z => (FloatOps.ofBits .f32 (x1 z) : Ideal .f32)) (funext fun d => Fin.ext ?_)
  match d with
  | ⟨0, _⟩ =>
    show (((((i 0).val * 64 + (i 1).val) / 16384 * 128 + ((i 0).val * 64 + (i 1).val) / 64 % 128) * 2 + ((i 0).val * 64 + (i 1).val) / 8192 % 2) * 64
      + ((i 0).val * 64 + (i 1).val) % 64) / 128 = b.val / 256 * 128 + b.val % 128
    rw [h0, h1, e0, e1, e2, e3]; omega
  | ⟨1, _⟩ =>
    show (((((i 0).val * 64 + (i 1).val) / 16384 * 128 + ((i 0).val * 64 + (i 1).val) / 64 % 128) * 2 + ((i 0).val * 64 + (i 1).val) / 8192 % 2) * 64
      + ((i 0).val * 64 + (i 1).val) % 64) % 128 = 64 * (b.val / 128 % 2) + s.val
    rw [h0, h1, e0, e1, e2, e3]; omega

/-- A code as a number. -/
theorem nums_at (x0 : S770048x128.Idx → BitVec 32) (b : Fin 48000) (s : Fin 60) (f : Fin 96) (i : S48000x60x96.Idx)
    (h0 : (i 0).val = b.val) (h1 : (i 1).val = s.val) (h2 : (i 2).val = f.val) :
    val_main_v12 (F := Ideal) x0 i = num (byteAt x0 b.val s.val f.val (by omega) (by omega) f.isLt) := by
  rw [val_main_v12_apply, val_main_v11_apply, codes_at x0 b s f i h0 h1 h2]
  show (((BitVec.signExtend 32 (byteAt x0 b.val s.val f.val _ _ _)).toInt : ℝ) : EReal) = _
  rw [BitVec.toInt_signExtend_of_le (by omega)]
  rfl

/-- The sum over the features of the products of the codes of two slots. -/
def dotAt (x0 : S770048x128.Idx → BitVec 32) (b s s' : ℕ) (hb : b < 48128) (hs : s < 64) (hs' : s' < 64) : Ideal .f32 :=
  ∑ f : Fin 96, num (byteAt x0 b s f.val hb hs f.isLt) * num (byteAt x0 b s' f.val hb hs' f.isLt)

theorem norms_at (x0 : S770048x128.Idx → BitVec 32) (b : Fin 48000) (s : Fin 60) (i : S48000x60.Idx) (h0 : (i 0).val = b.val) (h1 : (i 1).val = s.val) :
    val_main_v14 (F := Ideal) x0 i = dotAt x0 b.val s.val s.val (by omega) (by omega) (by omega) := by
  rw [val_main_v14_apply]
  refine (congrArg₂ (· + ·) Ideal.ofBits_zero_f32 (Finset.sum_congr rfl fun f _ => ?_)).trans (zero_add _)
  rw [val_main_v13_apply, nums_at x0 b s f _ h0 h1 rfl]
  rfl

theorem dots_at (x0 : S770048x128.Idx → BitVec 32) (b : Fin 48000) (s s' : Fin 60) (i : S48000x60x60.Idx) (h0 : (i 0).val = b.val)
    (h1 : (i 1).val = s.val) (h2 : (i 2).val = s'.val) :
    val_main_v16 (F := Ideal) x0 i = dotAt x0 b.val s.val s'.val (by omega) (by omega) (by omega) := by
  rw [val_main_v16_apply]
  refine Finset.sum_congr rfl fun f _ => ?_
  rw [val_main_v15_apply, val_main_v15_apply]
  exact congrArg₂ (· * ·) (nums_at x0 b s f _ h0 h1 rfl) (nums_at x0 b s' f _ h0 h2 rfl)

theorem counts_at (x2 : S1x48000.Idx → BitVec 32) (b : Fin 48000) (s : Fin 60) (i : S48000x60.Idx) (h0 : (i 0).val = b.val) (h1 : (i 1).val = s.val) :
    val_main_v38 (F := Ideal) x2 i = IntOp.cmpi .slt (BitVec.ofNat 32 s.val) (x2 (ix2 (0 : Fin 1) b)) := by
  rw [val_main_v38_apply, val_main_v36_apply, val_main_v34_apply, val_main_v33_apply, val_main_v37_apply, val_main_v35_apply, val_main_v10_apply]
  refine congrArg₂ (IntOp.cmpi .slt) ?_ (congrArg x2 (funext fun d => Fin.ext ?_))
  · show BitVec.ofNat 32 (i 1).val = _
    rw [h1]
  · match d with
    | ⟨0, _⟩ => rfl
    | ⟨1, _⟩ =>
      show (i 0).val % 48000 = b.val
      rw [h0]; exact Nat.mod_eq_of_lt b.isLt

/-- The reference's result, entry by entry. -/
theorem refOut_apply (x0 : S770048x128.Idx → BitVec 32) (x1 : S24064x128.Idx → BitVec 32) (x2 : S1x48000.Idx → BitVec 32) (t j : Fin 60) (b : Fin 48000) :
    val_main_v45 (F := Ideal) x0 x1 x2 (ix3 t j b)
      = distOf (F := Ideal) t.val j.val (x2 (ix2 (0 : Fin 1) b)) (scaleAt x1 b.val t.val (by omega) (by omega)) (scaleAt x1 b.val j.val (by omega) (by omega))
          (dotAt x0 b.val t.val t.val (by omega) (by omega) (by omega)) (dotAt x0 b.val j.val j.val (by omega) (by omega) (by omega))
          (dotAt x0 b.val t.val j.val (by omega) (by omega) (by omega)) := by
  rw [val_main_v45_apply, val_main_v44_apply, val_main_v43_apply, val_main_v41_apply, val_main_v39_apply, val_main_v42_apply, val_main_v40_apply,
    counts_at x2 b t _ rfl rfl, counts_at x2 b j _ rfl rfl, val_main_v32_apply, val_main_v25_apply, val_main_v23_apply, val_main_v21_apply,
    val_main_v24_apply, val_main_v22_apply, val_main_v18_apply, val_main_v18_apply, val_main_v17_apply, val_main_v17_apply,
    val_main_v31_apply, val_main_v30_apply, val_main_v28_apply, val_main_v26_apply, val_main_v29_apply, val_main_v27_apply, val_main_v20_apply,
    scales_at x1 b t _ rfl rfl, scales_at x1 b j _ rfl rfl, norms_at x0 b t _ rfl rfl, norms_at x0 b j _ rfl rfl, dots_at x0 b t j _ rfl rfl rfl]
  unfold distOf
  refine congrArg₂ (fun c (v : Ideal .f32) => Scalar.select c v _) ?_ rfl
  exact BitVec.and_comm _ _

end Cert.ReferenceIdeal.Dist

end
-- ==== Proof.Equation.lean ====
/-
  The kernel's result array is the reference's (`result_eq`): point `g` of the grid writes back batches `256 g` to
  `256 g + 255`, those within the 48000, and each entry written is the reference's entry of that batch.
-/
module

public import proofs.«01_k».proof.Proof.IdealFrame
public import proofs.«01_k».proof.Proof.RefValue
public import Idealize.ShloMosaic.Lib.Pipeline.Value
public import Idealize.ShloMosaic.Lib.Pipeline.ValueKit.Geometry

@[expose] public section

set_option maxRecDepth 16384

noncomputable section

namespace Cert.KernelIdeal.Dist

open Cert.KernelIdeal Cert.KernelIdeal.Gen
open Idealize.ShloMosaic Idealize.ShloMosaic.TcCoe Idealize.ShloMosaic.Tactic
open Idealize.SL.Sem
open Idealize.ShloMosaic.ValueIdx
open Idealize.ShloMosaic.Pipeline (Dat Cfg Window)
open Cert.ReferenceIdeal.Dist (byteAt scaleAt dotAt refOut_apply)

variable (m : (ℓ : Loc nD τ sig) → Buf (Elt Ideal) ℓ)

/-- The rows of words, the scales and the counts, as the kernel is given them. -/
abbrev argRows (c : Dev nD) : S770048x128.Idx → BitVec 32 := m ((c.tc : Thread nD τ).loc main_arg0)
abbrev argScales (c : Dev nD) : S24064x128.Idx → BitVec 32 := m ((c.tc : Thread nD τ).loc main_arg1)
abbrev argCounts (c : Dev nD) : S1x48000.Idx → BitVec 32 := m ((c.tc : Thread nD τ).loc main_arg2)

/-- The result, from the reference's operations. -/
abbrev result (c : Dev nD) : S60x60x48000.Idx → Ideal .f32 :=
  Cert.ReferenceIdeal.Read.val_main_v45 (F := Ideal) (argRows m c) (argScales m c) (argCounts m c)

/-- A feature of a slot, read by the kernel at point `g` in lane `l` of the batches, is the reference's of batch `256 g + l`. -/
theorem feat_at (c : Dev nD) (g : Fin cfg0.N) (l s : ℕ) (hl : l < 256) (hs : s < 64) (hb : 256 * g.val + l < 48128) (f : Fin 96) :
    feat (pairRows (iblk m c 0 g) (l % 128) (Nat.mod_lt _ (by omega))) (64 * (l / 128) + s) (by omega) f
      = num (byteAt (argRows m c) (256 * g.val + l) s f.val hb hs f.isLt) := by
  unfold feat code byteAt pairRows
  have hf := f.isLt
  have e := lane_feature (f.val % 4) (f.val / 4) (by omega) (by omega)
  refine congrArg num ?_
  refine (congrArg (fun z : BitVec 32 => z.extractLsb' (8 * ((32 * (f.val % 4) + f.val / 4) / 32)) 8) (rows_apply m c g _ _)).trans ?_
  rw [e.2.1]
  refine congrArg (fun z => (argRows m c z).extractLsb' (8 * (f.val % 4)) 8) (funext fun d => Fin.ext ?_)
  have e1 : (256 * g.val + l) / 256 = g.val := by omega
  have e2 : (256 * g.val + l) % 128 = l % 128 := by omega
  have e3 : (256 * g.val + l) / 128 % 2 = l / 128 := by omega
  match d with
  | ⟨0, _⟩ =>
    show 4096 * g.val + (32 * (l % 128) + (64 * (l / 128) + s) / 4)
      = ((256 * g.val + l) / 256 * 128 + (256 * g.val + l) % 128) * 32 + (64 * ((256 * g.val + l) / 128 % 2) + s) / 4
    rw [e1, e2, e3]; omega
  | ⟨1, _⟩ =>
    show 32 * ((64 * (l / 128) + s) % 4) + (32 * (f.val % 4) + f.val / 4) % 32 = 32 * ((64 * ((256 * g.val + l) / 128 % 2) + s) % 4) + f.val / 4
    rw [e.1, e3]

/-- A Gram entry of the kernel is the reference's sum. -/
theorem gram_at (c : Dev nD) (g : Fin cfg0.N) (l s s' : ℕ) (hl : l < 256) (hs : s < 64) (hs' : s' < 64) (hb : 256 * g.val + l < 48128) :
    gramAt (gramRows (iblk m c 0 g)) (l / 128) (l % 128) s s' (by omega) (Nat.mod_lt _ (by omega)) hs hs'
      = dotAt (argRows m c) (256 * g.val + l) s s' hb hs hs' := by
  unfold gramAt dotAt
  refine (gramRows_at (iblk m c 0 g) (l % 128) (Nat.mod_lt _ (by omega)) (⟨s, hs⟩ : Fin 64) (⟨64 * (l / 128) + s', by omega⟩ : Fin 128) _
    (by show s + 64 * (l % 128) = 64 * (l % 128) + s; omega) rfl).trans ?_
  rw [gramOf_apply _ (l / 128) s s' (by omega) hs hs']
  exact Finset.sum_congr rfl fun f _ => congrArg₂ (· * ·) (feat_at m c g l s hl hs hb f) (feat_at m c g l s' hl hs' hb f)

/-- A scale of the kernel is the reference's. -/
theorem scale_at (c : Dev nD) (g : Fin cfg0.N) (l s : ℕ) (hl : l < 256) (hs : s < 64) (hb : 256 * g.val + l < 48128) :
    sclAt (F := Ideal) (iblk m c 1 g) (l / 128) (l % 128) s (by omega) (Nat.mod_lt _ (by omega)) hs = scaleAt (argScales m c) (256 * g.val + l) s hb hs := by
  unfold sclAt scaleAt
  refine congrArg (fun z : BitVec 32 => (FloatOps.ofBits .f32 z : Ideal .f32)) ((scales_apply m c g _ _).trans ?_)
  refine congrArg (argScales m c) (funext fun d => Fin.ext ?_)
  match d with
  | ⟨0, _⟩ => show 128 * g.val + l % 128 = (256 * g.val + l) / 256 * 128 + (256 * g.val + l) % 128; omega
  | ⟨1, _⟩ => show 64 * (l / 128) + s = 64 * ((256 * g.val + l) / 128 % 2) + s; omega

/-- An entry of the block of point `g`, at a lane within the array, is the reference's entry of that batch. -/
theorem out_at (c : Dev nD) (g : Fin cfg0.N) (y : S60x60x256.Idx) (hb : 256 * g.val + (y 2).val < 48000) :
    outAt m c g y = result m c (ix3 (y 0) (y 1) (⟨256 * g.val + (y 2).val, hb⟩ : Fin 48000)) := by
  have hl : (y 2).val < 256 := (y 2).isLt
  have h0 : (y 0).val < 60 := (y 0).isLt
  have h1 : (y 1).val < 60 := (y 1).isLt
  refine Eq.trans ?_ (refOut_apply (argRows m c) (argScales m c) (argCounts m c) (y 0) (y 1) (⟨256 * g.val + (y 2).val, hb⟩ : Fin 48000)).symm
  unfold outAt blockFn entry
  rw [gram_at m c g (y 2).val (y 0).val (y 0).val hl (by omega) (by omega) (by omega), gram_at m c g (y 2).val (y 1).val (y 1).val hl (by omega) (by omega) (by omega),
    gram_at m c g (y 2).val (y 0).val (y 1).val hl (by omega) (by omega) (by omega), scale_at m c g (y 2).val (y 0).val hl (by omega) (by omega),
    scale_at m c g (y 2).val (y 1).val hl (by omega) (by omega)]
  exact congrArg (fun q => distOf (F := Ideal) _ _ q _ _ _ _ _) (cntAt_apply m c g _ (y 2) hb)

/-- What point `g` writes back is its block of the reference's result. -/
theorem flushed_eq (c : Dev nD) (g : Fin cfg0.N) : (dats m 0 c).flushed 3 g = ((cfg0.win 3).blk g).view.read (Elt Ideal) (result m c) := by
  unfold Dat.flushed
  rw [after_3]
  funext y
  rw [View.read_apply]
  refine (out_at m c g (win0_3.xinj (grid0.coords g) y) (moved3 g y)).trans ?_
  refine congrArg (result m c) (funext fun d => Fin.ext ?_)
  match d with
  | ⟨0, _⟩ => exact ((Pipeline.Window.rect_emb_val win0_3 g y 0).trans (by show 0 * 60 + (y 0).val = (y 0).val; omega)).symm
  | ⟨1, _⟩ => exact ((Pipeline.Window.rect_emb_val win0_3 g y 1).trans (by show 0 * 60 + (y 1).val = (y 1).val; omega)).symm
  | ⟨2, _⟩ =>
    refine Eq.symm ((Pipeline.Window.rect_emb_val win0_3 g y 2).trans ?_)
    show cc0_transform_3 (grid0.coords g) 2 * 256 + (y 2).val = 256 * g.val + (y 2).val
    rw [trans3]; omega

/-- Every entry of the result is written back by some point. -/
theorem covered (i : S60x60x48000.Idx) : ∃ g : Fin cfg0.N, (cfg0.win 3).flush g = true ∧ i ∈ ((cfg0.win 3).blk g).view.set := by
  have h2 : (i 2).val < 48000 := (i 2).isLt
  obtain ⟨g, hg⟩ : ∃ g : Fin cfg0.N, g.val = (i 2).val / 256 := ⟨⟨(i 2).val / 256, by show (i 2).val / 256 < 188; omega⟩, rfl⟩
  refine ⟨g, flush0_3 g, (Pipeline.Window.emb_mem_blk_iff (w := win0_3) g i rfl).2 fun a => ?_⟩
  match a with
  | ⟨0, _⟩ =>
    have h : (i 0).val < 60 := (i 0).isLt
    exact ⟨by show 0 * 60 ≤ (i 0).val; omega, by show (i 0).val < 0 * 60 + 60; omega⟩
  | ⟨1, _⟩ =>
    have h : (i 1).val < 60 := (i 1).isLt
    exact ⟨by show 0 * 60 ≤ (i 1).val; omega, by show (i 1).val < 0 * 60 + 60; omega⟩
  | ⟨2, _⟩ =>
    have e := (extent_iff g.val ((i 2).val % 256) (t_lt g) (Nat.mod_lt _ (by omega))).2 (by omega)
    refine ⟨?_, ?_⟩
    · show cc0_transform_3 (grid0.coords g) 2 * 256 ≤ (i 2).val
      rw [trans3]; omega
    · show (i 2).val < cc0_transform_3 (grid0.coords g) 2 * 256 + (Pipeline.Clip.of (cc0_transform_3 (grid0.coords g) 2) 256 48000).extent 256
      rw [trans3]; omega

/-- The kernel's result array at the end is the reference's result. -/
theorem result_eq (c : Dev nD) : (dats m 0 c).arrAt 3 cfg0.N = result m c :=
  (dats m 0 c).arrAt_eq_of_cover 3 (result m c) (fun g _ => flushed_eq m c g) covered

end Cert.KernelIdeal.Dist

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.BitsFrame
public import proofs.«01_k».proof.Proof.Equation
public import Idealize.ShloMosaic.Adequacy
public import Idealize.ShloMosaic.Init

@[expose] public section

noncomputable section

namespace Cert.Proof

open Idealize.ShloMosaic Idealize.SL.Sem

/-- The kernel as printed runs, leaves its arguments as they were and every counter at zero. -/
theorem kernel_frame : Cert.quiescent_Kernel (hKernel := Cert.Kernel.Gen.facts) := fun m g _ => Cert.Kernel.Dist.frame m g

/-- So does its idealization. -/
theorem ideal_frame : Cert.quiescent_KernelIdeal (hKernelIdeal := Cert.KernelIdeal.Gen.facts) := fun m g _ =>
  (θ_run _ _ _).mono (fun r h => ⟨fun c => (h.1 c).2, h.2⟩) (Cert.KernelIdeal.Dist.run (F := Ideal) m g)

/-- So does the reference. -/
theorem reference_frame : Cert.quiescent_ReferenceIdeal (hReferenceIdeal := Cert.ReferenceIdeal.Gen.facts) := fun m g _ =>
  (θ_run _ _ _).mono (fun r h => ⟨fun c => (h c).2, funext fun x => by
    rcases x with ⟨t, s | s⟩
    · exact s.elim0
    · exact s.elim0⟩) (Cert.ReferenceIdeal.Value.run (F := Ideal) m g)

/-- The two results are equal. -/
theorem equal_results : Cert.algebraic_KernelIdeal_ReferenceIdeal (hKernelIdeal := Cert.KernelIdeal.Gen.facts) (hReferenceIdeal := Cert.ReferenceIdeal.Gen.facts) :=
  fun m g m' g' _ hm => ⟨fun c => Cert.KernelIdeal.Dist.result m c,
    (θ_run _ _ _).mono (fun r h c => ⟨(h.1 c).1.trans (Cert.KernelIdeal.Dist.result_eq m c), (h.1 c).2⟩) (Cert.KernelIdeal.Dist.run (F := Ideal) m g),
    (θ_run _ _ _).mono (fun r h c => ⟨(h c).1.trans ((Cert.ReferenceIdeal.Read.val_main_v45_eq m' c).trans (by
      rw [(hm c).1, (hm c).2.1, (hm c).2.2])), (h c).2⟩) (Cert.ReferenceIdeal.Value.run (F := Ideal) m' g')⟩

theorem claim : Cert.Claim := ⟨Cert.Kernel.Gen.facts, Cert.KernelIdeal.Gen.facts, Cert.ReferenceIdeal.Gen.facts,
  kernel_frame, ideal_frame, reference_frame, trivial, equal_results⟩

end Cert.Proof

end
